-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Premix (m : (ℓ : Loc Cert.Premix.nD Cert.Premix.τ Cert.Premix.sig) → Buf (Elt Bits) ℓ) : Prop :=
  True

def Pre_PremixIdeal (m : (ℓ : Loc Cert.PremixIdeal.nD Cert.PremixIdeal.τ Cert.PremixIdeal.sig) → Buf (Elt Ideal) ℓ) : Prop :=
  True

def Pre_PremixReferenceIdeal (m : (ℓ : Loc Cert.PremixReferenceIdeal.nD Cert.PremixReferenceIdeal.τ Cert.PremixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Premix [hPremix : Cert.Premix.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3)
      ∧ r.2.mem ((c.tc : Thread Cert.Premix.nD Cert.Premix.τ).loc Cert.Premix.main_arg4) = m ((c.tc : Thread Cert.Premix.nD Cert.Premix.τ).loc Cert.Premix.main_arg4))
      ∧ r.2.sem = fun _ => 0)

def quiescent_PremixIdeal [hPremixIdeal : Cert.PremixIdeal.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
      ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4))
      ∧ r.2.sem = fun _ => 0)

def quiescent_PremixReferenceIdeal [hPremixReferenceIdeal : Cert.PremixReferenceIdeal.Facts] : Prop :=
  ∀ (m : (ℓ : Loc Cert.PremixReferenceIdeal.nD Cert.PremixReferenceIdeal.τ Cert.PremixReferenceIdeal.sig) → Buf (Elt Ideal) ℓ) (g : Dev Cert.PremixReferenceIdeal.nD → PrngReg), Pre_PremixReferenceIdeal m →
    θ_run (Cert.PremixReferenceIdeal.defs (F := Ideal)) (onTc (τ := Cert.PremixReferenceIdeal.τ) (Cert.PremixReferenceIdeal.main (F := Ideal))) ⟨m, fun _ => 0, g⟩ (fun r => (∀ c : Dev Cert.PremixReferenceIdeal.nD,
      r.2.mem ((c.tc : Thread Cert.PremixReferenceIdeal.nD Cert.PremixReferenceIdeal.τ).loc Cert.PremixReferenceIdeal.main_arg0) = m ((c.tc : Thread Cert.PremixReferenceIdeal.nD Cert.PremixReferenceIdeal.τ).loc Cert.PremixReferenceIdeal.main_arg0)
      ∧ r.2.mem ((c.tc : Thread Cert.PremixReferenceIdeal.nD Cert.PremixReferenceIdeal.τ).loc Cert.PremixReferenceIdeal.main_arg1) = m ((c.tc : Thread Cert.PremixReferenceIdeal.nD Cert.PremixReferenceIdeal.τ).loc Cert.PremixReferenceIdeal.main_arg1)
      ∧ r.2.mem ((c.tc : Thread Cert.PremixReferenceIdeal.nD Cert.PremixReferenceIdeal.τ).loc Cert.PremixReferenceIdeal.main_arg2) = m ((c.tc : Thread Cert.PremixReferenceIdeal.nD Cert.PremixReferenceIdeal.τ).loc Cert.PremixReferenceIdeal.main_arg2)
      ∧ r.2.mem ((c.tc : Thread Cert.PremixReferenceIdeal.nD Cert.PremixReferenceIdeal.τ).loc Cert.PremixReferenceIdeal.main_arg3) = m ((c.tc : Thread Cert.PremixReferenceIdeal.nD Cert.PremixReferenceIdeal.τ).loc Cert.PremixReferenceIdeal.main_arg3)
      ∧ r.2.mem ((c.tc : Thread Cert.PremixReferenceIdeal.nD Cert.PremixReferenceIdeal.τ).loc Cert.PremixReferenceIdeal.main_arg4) = m ((c.tc : Thread Cert.PremixReferenceIdeal.nD Cert.PremixReferenceIdeal.τ).loc Cert.PremixReferenceIdeal.main_arg4))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Premix_PremixIdeal : Prop :=
  IdealRules.named_const.Statement Cert.PremixIdeal.κ "score_scale" .f32 0x3E38AA3B#32 (((8 * (Real.log 2))⁻¹ : ℝ) : EReal)

def algebraic_PremixIdeal_PremixReferenceIdeal [hPremixIdeal : Cert.PremixIdeal.Facts] [hPremixReferenceIdeal : Cert.PremixReferenceIdeal.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.PremixReferenceIdeal.nD Cert.PremixReferenceIdeal.τ Cert.PremixReferenceIdeal.sig) → Buf (Elt Ideal) ℓ) (g' : Dev Cert.PremixReferenceIdeal.nD → PrngReg), Pre_PremixIdeal m →
    (∀ c : Dev Cert.PremixIdeal.nD,
      m' ((c.tc : Thread Cert.PremixReferenceIdeal.nD Cert.PremixReferenceIdeal.τ).loc Cert.PremixReferenceIdeal.main_arg0) = m ((c.tc : Thread Cert.PremixIdeal.nD Cert.PremixIdeal.τ).loc Cert.PremixIdeal.main_arg0)
      ∧ m' ((c.tc : Thread Cert.PremixReferenceIdeal.nD Cert.PremixReferenceIdeal.τ).loc Cert.PremixReferenceIdeal.main_arg1) = m ((c.tc : Thread Cert.PremixIdeal.nD Cert.PremixIdeal.τ).loc Cert.PremixIdeal.main_arg1)
      ∧ m' ((c.tc : Thread Cert.PremixReferenceIdeal.nD Cert.PremixReferenceIdeal.τ).loc Cert.PremixReferenceIdeal.main_arg2) = m ((c.tc : Thread Cert.PremixIdeal.nD Cert.PremixIdeal.τ).loc Cert.PremixIdeal.main_arg2)
      ∧ m' ((c.tc : Thread Cert.PremixReferenceIdeal.nD Cert.PremixReferenceIdeal.τ).loc Cert.PremixReferenceIdeal.main_arg3) = m ((c.tc : Thread Cert.PremixIdeal.nD Cert.PremixIdeal.τ).loc Cert.PremixIdeal.main_arg3)
      ∧ m' ((c.tc : Thread Cert.PremixReferenceIdeal.nD Cert.PremixReferenceIdeal.τ).loc Cert.PremixReferenceIdeal.main_arg4) = m ((c.tc : Thread Cert.PremixIdeal.nD Cert.PremixIdeal.τ).loc Cert.PremixIdeal.main_arg4)) →
    ∃ (v0 : (c : Dev Cert.PremixIdeal.nD) → Buf (Elt Ideal) ((c.tc : Thread Cert.PremixIdeal.nD Cert.PremixIdeal.τ).loc Cert.PremixIdeal.main_v4_0)) (v1 : (c : Dev Cert.PremixIdeal.nD) → Buf (Elt Ideal) ((c.tc : Thread Cert.PremixIdeal.nD Cert.PremixIdeal.τ).loc Cert.PremixIdeal.main_v4_1)) (v2 : (c : Dev Cert.PremixIdeal.nD) → Buf (Elt Ideal) ((c.tc : Thread Cert.PremixIdeal.nD Cert.PremixIdeal.τ).loc Cert.PremixIdeal.main_v4_2)) (v3 : (c : Dev Cert.PremixIdeal.nD) → Buf (Elt Ideal) ((c.tc : Thread Cert.PremixIdeal.nD Cert.PremixIdeal.τ).loc Cert.PremixIdeal.main_v4_3)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v4_0) = v0 c
          ∧ r.2.mem ((c.tc : Thread Cert.PremixIdeal.nD Cert.PremixIdeal.τ).loc Cert.PremixIdeal.main_v4_1) = v1 c
          ∧ r.2.mem ((c.tc : Thread Cert.PremixIdeal.nD Cert.PremixIdeal.τ).loc Cert.PremixIdeal.main_v4_2) = v2 c
          ∧ r.2.mem ((c.tc : Thread Cert.PremixIdeal.nD Cert.PremixIdeal.τ).loc Cert.PremixIdeal.main_v4_3) = v3 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
          ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4))
      ∧ θ_run (Cert.PremixReferenceIdeal.defs (F := Ideal)) (onTc (τ := Cert.PremixReferenceIdeal.τ) (Cert.PremixReferenceIdeal.main (F := Ideal))) ⟨m', fun _ => 0, g'⟩ (fun r => ∀ c : Dev Cert.PremixReferenceIdeal.nD,
          r.2.mem ((c.tc : Thread Cert.PremixReferenceIdeal.nD Cert.PremixReferenceIdeal.τ).loc Cert.PremixReferenceIdeal.main_v32) = v0 c
          ∧ r.2.mem ((c.tc : Thread Cert.PremixReferenceIdeal.nD Cert.PremixReferenceIdeal.τ).loc Cert.PremixReferenceIdeal.main_v36) = v1 c
          ∧ r.2.mem ((c.tc : Thread Cert.PremixReferenceIdeal.nD Cert.PremixReferenceIdeal.τ).loc Cert.PremixReferenceIdeal.main_v37) = v2 c
          ∧ r.2.mem ((c.tc : Thread Cert.PremixReferenceIdeal.nD Cert.PremixReferenceIdeal.τ).loc Cert.PremixReferenceIdeal.main_v38) = v3 c
          ∧ r.2.mem ((c.tc : Thread Cert.PremixReferenceIdeal.nD Cert.PremixReferenceIdeal.τ).loc Cert.PremixReferenceIdeal.main_arg0) = m' ((c.tc : Thread Cert.PremixReferenceIdeal.nD Cert.PremixReferenceIdeal.τ).loc Cert.PremixReferenceIdeal.main_arg0)
          ∧ r.2.mem ((c.tc : Thread Cert.PremixReferenceIdeal.nD Cert.PremixReferenceIdeal.τ).loc Cert.PremixReferenceIdeal.main_arg1) = m' ((c.tc : Thread Cert.PremixReferenceIdeal.nD Cert.PremixReferenceIdeal.τ).loc Cert.PremixReferenceIdeal.main_arg1)
          ∧ r.2.mem ((c.tc : Thread Cert.PremixReferenceIdeal.nD Cert.PremixReferenceIdeal.τ).loc Cert.PremixReferenceIdeal.main_arg2) = m' ((c.tc : Thread Cert.PremixReferenceIdeal.nD Cert.PremixReferenceIdeal.τ).loc Cert.PremixReferenceIdeal.main_arg2)
          ∧ r.2.mem ((c.tc : Thread Cert.PremixReferenceIdeal.nD Cert.PremixReferenceIdeal.τ).loc Cert.PremixReferenceIdeal.main_arg3) = m' ((c.tc : Thread Cert.PremixReferenceIdeal.nD Cert.PremixReferenceIdeal.τ).loc Cert.PremixReferenceIdeal.main_arg3)
          ∧ r.2.mem ((c.tc : Thread Cert.PremixReferenceIdeal.nD Cert.PremixReferenceIdeal.τ).loc Cert.PremixReferenceIdeal.main_arg4) = m' ((c.tc : Thread Cert.PremixReferenceIdeal.nD Cert.PremixReferenceIdeal.τ).loc Cert.PremixReferenceIdeal.main_arg4))

def Claim : Prop :=
  ∃ (hKernel : Cert.Kernel.Facts) (hKernelIdeal : Cert.KernelIdeal.Facts) (hReferenceIdeal : Cert.ReferenceIdeal.Facts) (hPremix : Cert.Premix.Facts) (hPremixIdeal : Cert.PremixIdeal.Facts) (hPremixReferenceIdeal : Cert.PremixReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Premix (hPremix := hPremix)
    ∧ quiescent_PremixIdeal (hPremixIdeal := hPremixIdeal)
    ∧ quiescent_PremixReferenceIdeal (hPremixReferenceIdeal := hPremixReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Premix_PremixIdeal
    ∧ algebraic_PremixIdeal_PremixReferenceIdeal (hPremixIdeal := hPremixIdeal) (hPremixReferenceIdeal := hPremixReferenceIdeal)
-- ==== Pre_finite.lean ====
abbrev S8x8192x512 : Shape := ⟨3, ![8, 8192, 512]⟩
abbrev S_ : Shape := ⟨0, ![]⟩

class Facts : Prop where
  bcast_S_S8x8192x512 : S_.BroadcastsInDim S8x8192x512 (![] : Fin 0 → Fin S8x8192x512.rank)

variable [Facts]

def fn {F : FTy → Type} [FloatOps F] (main_arg0 : FVec F S8x8192x512 .f32) (main_arg1 : FVec F S8x8192x512 .f32) (main_arg2 : FVec F S8x8192x512 .f32) : IVec S8x8192x512 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_v3 : FVec F S8x8192x512 .f32 := Host.absf main_arg1
  let main_cst_0 : FVec F S_ .f32 := constant S_ .f32 0x7F800000#32
  let main_v4 : FVec F S8x8192x512 .f32 := broadcastInDim S8x8192x512 ![] bcast_S_S8x8192x512 main_cst_0
  let main_v5 : IVec S8x8192x512 1 := cmpf .olt main_v3 main_v4
  let main_v6 : IVec S8x8192x512 1 := andi main_v2 main_v5
  main_v6
-- ==== Kernel.lean ====
abbrev S8x8192x512 : Shape := ⟨3, ![8, 8192, 512]⟩
abbrev S_ : Shape := ⟨0, ![]⟩
abbrev S256x256 : Shape := ⟨2, ![256, 256]⟩
abbrev S512x256 : Shape := ⟨2, ![512, 256]⟩
abbrev S1x1024x128 : Shape := ⟨3, ![1, 1024, 128]⟩
abbrev S1x8192x128 : Shape := ⟨3, ![1, 8192, 128]⟩
abbrev S8x256x128 : Shape := ⟨3, ![8, 256, 128]⟩
abbrev S48x256x256 : Shape := ⟨3, ![48, 256, 256]⟩
abbrev S8x256x256 : Shape := ⟨3, ![8, 256, 256]⟩
abbrev S256x128 : Shape := ⟨2, ![256, 128]⟩
abbrev S1x256x128 : Shape := ⟨3, ![1, 256, 128]⟩
abbrev S1x256x256 : Shape := ⟨3, ![1, 256, 256]⟩
abbrev S256x512 : Shape := ⟨2, ![256, 512]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8192x512, .f32⟩
  | .hbm, ⟨9, _⟩ => ⟨S8x8192x512, .f32⟩
  | .hbm, ⟨10, _⟩ => ⟨S8x8192x512, .bf16⟩
  | .hbm, ⟨11, _⟩ => ⟨S8x8192x512, .bf16⟩
  | .hbm, ⟨12, _⟩ => ⟨S8x8192x512, .bf16⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S512x256, .i1⟩
  | .hbm, ⟨17, _⟩ => ⟨S512x256, .f32⟩
  | .hbm, ⟨18, _⟩ => ⟨S512x256, .bf16⟩
  | .hbm, ⟨19, _⟩ => ⟨S8x8192x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S512x256, .bf16⟩
  | .local _ .vmem, ⟨7, _⟩ => ⟨S1x1024x128, .f32⟩
  | .local _ .vmem, ⟨8, _⟩ => ⟨S1x1024x128, .f32⟩
  | .local _ .vmem, ⟨9, _⟩ => ⟨S8x256x128, .bf16⟩
  | .local _ .vmem, ⟨10, _⟩ => ⟨S48x256x256, .f32⟩
  | .local _ .vmem, ⟨11, _⟩ => ⟨S8x256x256, .bf16⟩
  | .local _ .vmem, ⟨12, _⟩ => ⟨S8x256x128, .f32⟩
  | .local _ .vmem, ⟨13, _⟩ => ⟨S8x256x128, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c0_i32 : BitVec 32 := 0#32
  let v60 : BitVec 32 := Scalar.subi v57 c0_i32
  let c256_i32 : BitVec 32 := 256#32
  let v61 : BitVec 32 := Scalar.muli v60 c256_i32
  v61
def k0_off1 (i : grid0.Coords) (c0_i32 : BitVec 32) : Fin 3 → Nat :=
  let c0_39 : Index := 0#32
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let v60 : BitVec 32 := Scalar.subi v57 c0_i32
  let c256_i32 : BitVec 32 := 256#32
  let v61 : BitVec 32 := Scalar.muli v60 c256_i32
  let v62 : BitVec 32 := v61
  let v63 : Index := Scalar.indexCast v62
  let c0_40 : Index := 0#32
  ![0, v63.toNat, 0]
def k0_mult2 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c1_i32_53 : BitVec 32 := 1#32
  let v78 : BitVec 32 := Scalar.subi v57 c1_i32_53
  let c256_i32_54 : BitVec 32 := 256#32
  let v79 : BitVec 32 := Scalar.muli v78 c256_i32_54
  v79
def k0_mult3 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c2_i32 : BitVec 32 := 2#32
  let v108 : BitVec 32 := Scalar.subi v57 c2_i32
  let c256_i32_81 : BitVec 32 := 256#32
  let v109 : BitVec 32 := Scalar.muli v108 c256_i32_81
  v109
def k0_mult4 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c3_i32 : BitVec 32 := 3#32
  let v150 : BitVec 32 := Scalar.subi v57 c3_i32
  let c256_i32_120 : BitVec 32 := 256#32
  let v151 : BitVec 32 := Scalar.muli v150 c256_i32_120
  v151
def k0_mult5 (i : grid0.Coords) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c0_i32_171 : BitVec 32 := 0#32
  let v204 : BitVec 32 := Scalar.maxsi v59 c0_i32_171
  let c256_i32_172 : BitVec 32 := 256#32
  let v205 : BitVec 32 := Scalar.muli v204 c256_i32_172
  v205
def k0_off2 (i : grid0.Coords) : Fin 3 → Nat :=
  let c0_173 : Index := 0#32
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c0_i32_171 : BitVec 32 := 0#32
  let v204 : BitVec 32 := Scalar.maxsi v59 c0_i32_171
  let c256_i32_172 : BitVec 32 := 256#32
  let v205 : BitVec 32 := Scalar.muli v204 c256_i32_172
  let v206 : BitVec 32 := v205
  let v207 : Index := Scalar.indexCast v206
  let c0_174 : Index := 0#32
  ![0, v207.toNat, 0]
def k0_mult6 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c0_i32_315 : BitVec 32 := 0#32
  let v438 : BitVec 32 := Scalar.subi v57 c0_i32_315
  let c256_i32_316 : BitVec 32 := 256#32
  let v439 : BitVec 32 := Scalar.muli v438 c256_i32_316
  v439
def k0_mult7 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c0_i32_332 : BitVec 32 := 0#32
  let v456 : BitVec 32 := Scalar.subi v57 c0_i32_332
  let c256_i32_333 : BitVec 32 := 256#32
  let v457 : BitVec 32 := Scalar.muli v456 c256_i32_333
  v457
def k0_mult8 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c1_i32_449 : BitVec 32 := 1#32
  let v677 : BitVec 32 := Scalar.subi v57 c1_i32_449
  let c256_i32_450 : BitVec 32 := 256#32
  let v678 : BitVec 32 := Scalar.muli v677 c256_i32_450
  v678
def k0_mult9 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c1_i32_466 : BitVec 32 := 1#32
  let v695 : BitVec 32 := Scalar.subi v57 c1_i32_466
  let c256_i32_467 : BitVec 32 := 256#32
  let v696 : BitVec 32 := Scalar.muli v695 c256_i32_467
  v696
def k0_mult10 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c1_i32_483 : BitVec 32 := 1#32
  let v713 : BitVec 32 := Scalar.subi v57 c1_i32_483
  let c256_i32_484 : BitVec 32 := 256#32
  let v714 : BitVec 32 := Scalar.muli v713 c256_i32_484
  v714
def k0_mult11 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c1_i32_500 : BitVec 32 := 1#32
  let v731 : BitVec 32 := Scalar.subi v57 c1_i32_500
  let c256_i32_501 : BitVec 32 := 256#32
  let v732 : BitVec 32 := Scalar.muli v731 c256_i32_501
  v732
def k0_mult12 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c2_i32_655 : BitVec 32 := 2#32
  let v1026 : BitVec 32 := Scalar.subi v57 c2_i32_655
  let c256_i32_656 : BitVec 32 := 256#32
  let v1027 : BitVec 32 := Scalar.muli v1026 c256_i32_656
  v1027
def k0_mult13 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c2_i32_672 : BitVec 32 := 2#32
  let v1044 : BitVec 32 := Scalar.subi v57 c2_i32_672
  let c256_i32_673 : BitVec 32 := 256#32
  let v1045 : BitVec 32 := Scalar.muli v1044 c256_i32_673
  v1045
def k0_mult14 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c2_i32_689 : BitVec 32 := 2#32
  let v1062 : BitVec 32 := Scalar.subi v57 c2_i32_689
  let c256_i32_690 : BitVec 32 := 256#32
  let v1063 : BitVec 32 := Scalar.muli v1062 c256_i32_690
  v1063
def k0_mult15 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c2_i32_706 : BitVec 32 := 2#32
  let v1080 : BitVec 32 := Scalar.subi v57 c2_i32_706
  let c256_i32_707 : BitVec 32 := 256#32
  let v1081 : BitVec 32 := Scalar.muli v1080 c256_i32_707
  v1081
def k0_mult16 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c2_i32_723 : BitVec 32 := 2#32
  let v1098 : BitVec 32 := Scalar.subi v57 c2_i32_723
  let c256_i32_724 : BitVec 32 := 256#32
  let v1099 : BitVec 32 := Scalar.muli v1098 c256_i32_724
  v1099
def k0_mult17 (i : grid0.Coords) : BitVec 32 :=
  let c4_i32 : BitVec 32 := 4#32
  let arg2 : BitVec 32 := BitVec.ofNat 32 (i 2).val
  let v55 : BitVec 32 := Scalar.muli c4_i32 arg2
  let c4_i32_36 : BitVec 32 := 4#32
  let v56 : BitVec 32 := Scalar.addi v55 c4_i32_36
  let c1_i32 : BitVec 32 := 1#32
  let v57 : BitVec 32 := Scalar.subi v56 c1_i32
  let c2_i32_740 : BitVec 32 := 2#32
  let v1116 : BitVec 32 := Scalar.subi v57 c2_i32_740
  let c256_i32_741 : BitVec 32 := 256#32
  let v1117 : BitVec 32 := Scalar.muli v1116 c256_i32_741
  v1117
@[reducible] def k0_t1_loop (i : grid0.Coords) : Scf.Loop 32 :=
  let c0_i32_864 : BitVec 32 := 0#32
  let c4_i32_855 : BitVec 32 := 4#32
  let arg2 : BitVec 32 := BitVec.ofNat 32 (i 2).val
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_866 : BitVec 32 := 1#32
  ⟨c0_i32_864, v1304, c1_i32_866⟩
def k0_mult18 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1045 : BitVec 32 := 1#32
  let v1571 : BitVec 32 := Scalar.addi v1415 c1_i32_1045
  let c256_i32_1046 : BitVec 32 := 256#32
  let v1572 : BitVec 32 := Scalar.muli v1571 c256_i32_1046
  v1572
def k0_off3 (i : grid0.Coords) (k0_t1 : Fin (k0_t1_loop i).trips) (c0_i32_988 : BitVec 32) : Fin 3 → Nat :=
  let c0_1047 : Index := 0#32
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let v1415 : BitVec 32 := Scalar.subi v1414 c0_i32_988
  let c1_i32_1045 : BitVec 32 := 1#32
  let v1571 : BitVec 32 := Scalar.addi v1415 c1_i32_1045
  let c256_i32_1046 : BitVec 32 := 256#32
  let v1572 : BitVec 32 := Scalar.muli v1571 c256_i32_1046
  let v1573 : BitVec 32 := v1572
  let v1574 : Index := Scalar.indexCast v1573
  let c0_1048 : Index := 0#32
  ![0, v1574.toNat, 0]
def k0_mult19 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1059 : BitVec 32 := 1#32
  let v1586 : BitVec 32 := Scalar.subi v1415 c1_i32_1059
  let c0_i32_1060 : BitVec 32 := 0#32
  let v1587 : BitVec 32 := Scalar.maxsi v1586 c0_i32_1060
  let c256_i32_1061 : BitVec 32 := 256#32
  let v1588 : BitVec 32 := Scalar.muli v1587 c256_i32_1061
  v1588
def k0_off4 (i : grid0.Coords) (k0_t1 : Fin (k0_t1_loop i).trips) (c0_i32_988 : BitVec 32) : Fin 3 → Nat :=
  let c0_1062 : Index := 0#32
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let v1415 : BitVec 32 := Scalar.subi v1414 c0_i32_988
  let c1_i32_1059 : BitVec 32 := 1#32
  let v1586 : BitVec 32 := Scalar.subi v1415 c1_i32_1059
  let c0_i32_1060 : BitVec 32 := 0#32
  let v1587 : BitVec 32 := Scalar.maxsi v1586 c0_i32_1060
  let c256_i32_1061 : BitVec 32 := 256#32
  let v1588 : BitVec 32 := Scalar.muli v1587 c256_i32_1061
  let v1589 : BitVec 32 := v1588
  let v1590 : Index := Scalar.indexCast v1589
  let c0_1063 : Index := 0#32
  ![0, v1590.toNat, 0]
def k0_mult20 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1073 : BitVec 32 := 1#32
  let v1602 : BitVec 32 := Scalar.addi v1415 c1_i32_1073
  let c256_i32_1074 : BitVec 32 := 256#32
  let v1603 : BitVec 32 := Scalar.muli v1602 c256_i32_1074
  v1603
def k0_mult21 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1087 : BitVec 32 := 1#32
  let v1617 : BitVec 32 := Scalar.subi v1415 c1_i32_1087
  let c0_i32_1088 : BitVec 32 := 0#32
  let v1618 : BitVec 32 := Scalar.maxsi v1617 c0_i32_1088
  let c256_i32_1089 : BitVec 32 := 256#32
  let v1619 : BitVec 32 := Scalar.muli v1618 c256_i32_1089
  v1619
def k0_mult22 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1101 : BitVec 32 := 1#32
  let v1633 : BitVec 32 := Scalar.addi v1415 c1_i32_1101
  let c256_i32_1102 : BitVec 32 := 256#32
  let v1634 : BitVec 32 := Scalar.muli v1633 c256_i32_1102
  v1634
def k0_mult23 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1115 : BitVec 32 := 1#32
  let v1648 : BitVec 32 := Scalar.subi v1415 c1_i32_1115
  let c0_i32_1116 : BitVec 32 := 0#32
  let v1649 : BitVec 32 := Scalar.maxsi v1648 c0_i32_1116
  let c256_i32_1117 : BitVec 32 := 256#32
  let v1650 : BitVec 32 := Scalar.muli v1649 c256_i32_1117
  v1650
def k0_mult24 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1129 : BitVec 32 := 1#32
  let v1664 : BitVec 32 := Scalar.addi v1415 c1_i32_1129
  let c256_i32_1130 : BitVec 32 := 256#32
  let v1665 : BitVec 32 := Scalar.muli v1664 c256_i32_1130
  v1665
def k0_mult25 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1143 : BitVec 32 := 1#32
  let v1679 : BitVec 32 := Scalar.subi v1415 c1_i32_1143
  let c0_i32_1144 : BitVec 32 := 0#32
  let v1680 : BitVec 32 := Scalar.maxsi v1679 c0_i32_1144
  let c256_i32_1145 : BitVec 32 := 256#32
  let v1681 : BitVec 32 := Scalar.muli v1680 c256_i32_1145
  v1681
def k0_mult26 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1157 : BitVec 32 := 1#32
  let v1695 : BitVec 32 := Scalar.addi v1415 c1_i32_1157
  let c256_i32_1158 : BitVec 32 := 256#32
  let v1696 : BitVec 32 := Scalar.muli v1695 c256_i32_1158
  v1696
def k0_mult27 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1171 : BitVec 32 := 1#32
  let v1710 : BitVec 32 := Scalar.subi v1415 c1_i32_1171
  let c0_i32_1172 : BitVec 32 := 0#32
  let v1711 : BitVec 32 := Scalar.maxsi v1710 c0_i32_1172
  let c256_i32_1173 : BitVec 32 := 256#32
  let v1712 : BitVec 32 := Scalar.muli v1711 c256_i32_1173
  v1712
def k0_mult28 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1185 : BitVec 32 := 1#32
  let v1726 : BitVec 32 := Scalar.addi v1415 c1_i32_1185
  let c256_i32_1186 : BitVec 32 := 256#32
  let v1727 : BitVec 32 := Scalar.muli v1726 c256_i32_1186
  v1727
def k0_mult29 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1199 : BitVec 32 := 1#32
  let v1741 : BitVec 32 := Scalar.subi v1415 c1_i32_1199
  let c0_i32_1200 : BitVec 32 := 0#32
  let v1742 : BitVec 32 := Scalar.maxsi v1741 c0_i32_1200
  let c256_i32_1201 : BitVec 32 := 256#32
  let v1743 : BitVec 32 := Scalar.muli v1742 c256_i32_1201
  v1743
def k0_mult30 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1213 : BitVec 32 := 1#32
  let v1757 : BitVec 32 := Scalar.addi v1415 c1_i32_1213
  let c256_i32_1214 : BitVec 32 := 256#32
  let v1758 : BitVec 32 := Scalar.muli v1757 c256_i32_1214
  v1758
def k0_mult31 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1227 : BitVec 32 := 1#32
  let v1772 : BitVec 32 := Scalar.subi v1415 c1_i32_1227
  let c0_i32_1228 : BitVec 32 := 0#32
  let v1773 : BitVec 32 := Scalar.maxsi v1772 c0_i32_1228
  let c256_i32_1229 : BitVec 32 := 256#32
  let v1774 : BitVec 32 := Scalar.muli v1773 c256_i32_1229
  v1774
def k0_mult32 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1241 : BitVec 32 := 1#32
  let v1788 : BitVec 32 := Scalar.addi v1415 c1_i32_1241
  let c256_i32_1242 : BitVec 32 := 256#32
  let v1789 : BitVec 32 := Scalar.muli v1788 c256_i32_1242
  v1789
def k0_mult33 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1255 : BitVec 32 := 1#32
  let v1803 : BitVec 32 := Scalar.subi v1415 c1_i32_1255
  let c0_i32_1256 : BitVec 32 := 0#32
  let v1804 : BitVec 32 := Scalar.maxsi v1803 c0_i32_1256
  let c256_i32_1257 : BitVec 32 := 256#32
  let v1805 : BitVec 32 := Scalar.muli v1804 c256_i32_1257
  v1805
def k0_mult34 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1422 : BitVec 32 := 1#32
  let v2119 : BitVec 32 := Scalar.addi v1963 c1_i32_1422
  let c256_i32_1423 : BitVec 32 := 256#32
  let v2120 : BitVec 32 := Scalar.muli v2119 c256_i32_1423
  v2120
def k0_mult35 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1436 : BitVec 32 := 1#32
  let v2134 : BitVec 32 := Scalar.subi v1963 c1_i32_1436
  let c0_i32_1437 : BitVec 32 := 0#32
  let v2135 : BitVec 32 := Scalar.maxsi v2134 c0_i32_1437
  let c256_i32_1438 : BitVec 32 := 256#32
  let v2136 : BitVec 32 := Scalar.muli v2135 c256_i32_1438
  v2136
def k0_mult36 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1451 : BitVec 32 := 1#32
  let v2150 : BitVec 32 := Scalar.addi v1963 c1_i32_1451
  let c256_i32_1452 : BitVec 32 := 256#32
  let v2151 : BitVec 32 := Scalar.muli v2150 c256_i32_1452
  v2151
def k0_mult37 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1465 : BitVec 32 := 1#32
  let v2165 : BitVec 32 := Scalar.subi v1963 c1_i32_1465
  let c0_i32_1466 : BitVec 32 := 0#32
  let v2166 : BitVec 32 := Scalar.maxsi v2165 c0_i32_1466
  let c256_i32_1467 : BitVec 32 := 256#32
  let v2167 : BitVec 32 := Scalar.muli v2166 c256_i32_1467
  v2167
def k0_mult38 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1480 : BitVec 32 := 1#32
  let v2181 : BitVec 32 := Scalar.addi v1963 c1_i32_1480
  let c256_i32_1481 : BitVec 32 := 256#32
  let v2182 : BitVec 32 := Scalar.muli v2181 c256_i32_1481
  v2182
def k0_mult39 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1494 : BitVec 32 := 1#32
  let v2196 : BitVec 32 := Scalar.subi v1963 c1_i32_1494
  let c0_i32_1495 : BitVec 32 := 0#32
  let v2197 : BitVec 32 := Scalar.maxsi v2196 c0_i32_1495
  let c256_i32_1496 : BitVec 32 := 256#32
  let v2198 : BitVec 32 := Scalar.muli v2197 c256_i32_1496
  v2198
def k0_mult40 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1509 : BitVec 32 := 1#32
  let v2212 : BitVec 32 := Scalar.addi v1963 c1_i32_1509
  let c256_i32_1510 : BitVec 32 := 256#32
  let v2213 : BitVec 32 := Scalar.muli v2212 c256_i32_1510
  v2213
def k0_mult41 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1523 : BitVec 32 := 1#32
  let v2227 : BitVec 32 := Scalar.subi v1963 c1_i32_1523
  let c0_i32_1524 : BitVec 32 := 0#32
  let v2228 : BitVec 32 := Scalar.maxsi v2227 c0_i32_1524
  let c256_i32_1525 : BitVec 32 := 256#32
  let v2229 : BitVec 32 := Scalar.muli v2228 c256_i32_1525
  v2229
def k0_mult42 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1538 : BitVec 32 := 1#32
  let v2243 : BitVec 32 := Scalar.addi v1963 c1_i32_1538
  let c256_i32_1539 : BitVec 32 := 256#32
  let v2244 : BitVec 32 := Scalar.muli v2243 c256_i32_1539
  v2244
def k0_mult43 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1552 : BitVec 32 := 1#32
  let v2258 : BitVec 32 := Scalar.subi v1963 c1_i32_1552
  let c0_i32_1553 : BitVec 32 := 0#32
  let v2259 : BitVec 32 := Scalar.maxsi v2258 c0_i32_1553
  let c256_i32_1554 : BitVec 32 := 256#32
  let v2260 : BitVec 32 := Scalar.muli v2259 c256_i32_1554
  v2260
def k0_mult44 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1567 : BitVec 32 := 1#32
  let v2274 : BitVec 32 := Scalar.addi v1963 c1_i32_1567
  let c256_i32_1568 : BitVec 32 := 256#32
  let v2275 : BitVec 32 := Scalar.muli v2274 c256_i32_1568
  v2275
def k0_mult45 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1581 : BitVec 32 := 1#32
  let v2289 : BitVec 32 := Scalar.subi v1963 c1_i32_1581
  let c0_i32_1582 : BitVec 32 := 0#32
  let v2290 : BitVec 32 := Scalar.maxsi v2289 c0_i32_1582
  let c256_i32_1583 : BitVec 32 := 256#32
  let v2291 : BitVec 32 := Scalar.muli v2290 c256_i32_1583
  v2291
def k0_mult46 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1596 : BitVec 32 := 1#32
  let v2305 : BitVec 32 := Scalar.addi v1963 c1_i32_1596
  let c256_i32_1597 : BitVec 32 := 256#32
  let v2306 : BitVec 32 := Scalar.muli v2305 c256_i32_1597
  v2306
def k0_mult47 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1610 : BitVec 32 := 1#32
  let v2320 : BitVec 32 := Scalar.subi v1963 c1_i32_1610
  let c0_i32_1611 : BitVec 32 := 0#32
  let v2321 : BitVec 32 := Scalar.maxsi v2320 c0_i32_1611
  let c256_i32_1612 : BitVec 32 := 256#32
  let v2322 : BitVec 32 := Scalar.muli v2321 c256_i32_1612
  v2322
def k0_mult48 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1625 : BitVec 32 := 1#32
  let v2336 : BitVec 32 := Scalar.addi v1963 c1_i32_1625
  let c256_i32_1626 : BitVec 32 := 256#32
  let v2337 : BitVec 32 := Scalar.muli v2336 c256_i32_1626
  v2337
def k0_mult49 (i : grid0.Coords) (k0_t1 : Fin (k0_t1_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c1_i32_866 : BitVec 32 := 1#32
  let arg13 : BitVec 32 := Scf.iv c0_i32_864 c1_i32_866 k0_t1
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1639 : BitVec 32 := 1#32
  let v2351 : BitVec 32 := Scalar.subi v1963 c1_i32_1639
  let c0_i32_1640 : BitVec 32 := 0#32
  let v2352 : BitVec 32 := Scalar.maxsi v2351 c0_i32_1640
  let c256_i32_1641 : BitVec 32 := 256#32
  let v2353 : BitVec 32 := Scalar.muli v2352 c256_i32_1641
  v2353
@[reducible] def k0_t2_loop (i : grid0.Coords) : Scf.Loop 32 :=
  let c0_i32_864 : BitVec 32 := 0#32
  let c4_i32_855 : BitVec 32 := 4#32
  let arg2 : BitVec 32 := BitVec.ofNat 32 (i 2).val
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let v1301 : BitVec 32 := Scalar.addi c0_i32_864 v1300
  let c1_i32_867 : BitVec 32 := 1#32
  ⟨v1304, v1301, c1_i32_867⟩
def k0_mult50 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1045 : BitVec 32 := 1#32
  let v1571 : BitVec 32 := Scalar.addi v1415 c1_i32_1045
  let c256_i32_1046 : BitVec 32 := 256#32
  let v1572 : BitVec 32 := Scalar.muli v1571 c256_i32_1046
  v1572
def k0_off5 (i : grid0.Coords) (k0_t2 : Fin (k0_t2_loop i).trips) (c0_i32_988 : BitVec 32) : Fin 3 → Nat :=
  let c0_1047 : Index := 0#32
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let v1415 : BitVec 32 := Scalar.subi v1414 c0_i32_988
  let c1_i32_1045 : BitVec 32 := 1#32
  let v1571 : BitVec 32 := Scalar.addi v1415 c1_i32_1045
  let c256_i32_1046 : BitVec 32 := 256#32
  let v1572 : BitVec 32 := Scalar.muli v1571 c256_i32_1046
  let v1573 : BitVec 32 := v1572
  let v1574 : Index := Scalar.indexCast v1573
  let c0_1048 : Index := 0#32
  ![0, v1574.toNat, 0]
def k0_mult51 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1059 : BitVec 32 := 1#32
  let v1586 : BitVec 32 := Scalar.subi v1415 c1_i32_1059
  let c0_i32_1060 : BitVec 32 := 0#32
  let v1587 : BitVec 32 := Scalar.maxsi v1586 c0_i32_1060
  let c256_i32_1061 : BitVec 32 := 256#32
  let v1588 : BitVec 32 := Scalar.muli v1587 c256_i32_1061
  v1588
def k0_off6 (i : grid0.Coords) (k0_t2 : Fin (k0_t2_loop i).trips) (c0_i32_988 : BitVec 32) : Fin 3 → Nat :=
  let c0_1062 : Index := 0#32
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let v1415 : BitVec 32 := Scalar.subi v1414 c0_i32_988
  let c1_i32_1059 : BitVec 32 := 1#32
  let v1586 : BitVec 32 := Scalar.subi v1415 c1_i32_1059
  let c0_i32_1060 : BitVec 32 := 0#32
  let v1587 : BitVec 32 := Scalar.maxsi v1586 c0_i32_1060
  let c256_i32_1061 : BitVec 32 := 256#32
  let v1588 : BitVec 32 := Scalar.muli v1587 c256_i32_1061
  let v1589 : BitVec 32 := v1588
  let v1590 : Index := Scalar.indexCast v1589
  let c0_1063 : Index := 0#32
  ![0, v1590.toNat, 0]
def k0_mult52 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1073 : BitVec 32 := 1#32
  let v1602 : BitVec 32 := Scalar.addi v1415 c1_i32_1073
  let c256_i32_1074 : BitVec 32 := 256#32
  let v1603 : BitVec 32 := Scalar.muli v1602 c256_i32_1074
  v1603
def k0_mult53 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1087 : BitVec 32 := 1#32
  let v1617 : BitVec 32 := Scalar.subi v1415 c1_i32_1087
  let c0_i32_1088 : BitVec 32 := 0#32
  let v1618 : BitVec 32 := Scalar.maxsi v1617 c0_i32_1088
  let c256_i32_1089 : BitVec 32 := 256#32
  let v1619 : BitVec 32 := Scalar.muli v1618 c256_i32_1089
  v1619
def k0_mult54 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1101 : BitVec 32 := 1#32
  let v1633 : BitVec 32 := Scalar.addi v1415 c1_i32_1101
  let c256_i32_1102 : BitVec 32 := 256#32
  let v1634 : BitVec 32 := Scalar.muli v1633 c256_i32_1102
  v1634
def k0_mult55 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1115 : BitVec 32 := 1#32
  let v1648 : BitVec 32 := Scalar.subi v1415 c1_i32_1115
  let c0_i32_1116 : BitVec 32 := 0#32
  let v1649 : BitVec 32 := Scalar.maxsi v1648 c0_i32_1116
  let c256_i32_1117 : BitVec 32 := 256#32
  let v1650 : BitVec 32 := Scalar.muli v1649 c256_i32_1117
  v1650
def k0_mult56 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1129 : BitVec 32 := 1#32
  let v1664 : BitVec 32 := Scalar.addi v1415 c1_i32_1129
  let c256_i32_1130 : BitVec 32 := 256#32
  let v1665 : BitVec 32 := Scalar.muli v1664 c256_i32_1130
  v1665
def k0_mult57 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1143 : BitVec 32 := 1#32
  let v1679 : BitVec 32 := Scalar.subi v1415 c1_i32_1143
  let c0_i32_1144 : BitVec 32 := 0#32
  let v1680 : BitVec 32 := Scalar.maxsi v1679 c0_i32_1144
  let c256_i32_1145 : BitVec 32 := 256#32
  let v1681 : BitVec 32 := Scalar.muli v1680 c256_i32_1145
  v1681
def k0_mult58 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1157 : BitVec 32 := 1#32
  let v1695 : BitVec 32 := Scalar.addi v1415 c1_i32_1157
  let c256_i32_1158 : BitVec 32 := 256#32
  let v1696 : BitVec 32 := Scalar.muli v1695 c256_i32_1158
  v1696
def k0_mult59 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1171 : BitVec 32 := 1#32
  let v1710 : BitVec 32 := Scalar.subi v1415 c1_i32_1171
  let c0_i32_1172 : BitVec 32 := 0#32
  let v1711 : BitVec 32 := Scalar.maxsi v1710 c0_i32_1172
  let c256_i32_1173 : BitVec 32 := 256#32
  let v1712 : BitVec 32 := Scalar.muli v1711 c256_i32_1173
  v1712
def k0_mult60 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1185 : BitVec 32 := 1#32
  let v1726 : BitVec 32 := Scalar.addi v1415 c1_i32_1185
  let c256_i32_1186 : BitVec 32 := 256#32
  let v1727 : BitVec 32 := Scalar.muli v1726 c256_i32_1186
  v1727
def k0_mult61 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1199 : BitVec 32 := 1#32
  let v1741 : BitVec 32 := Scalar.subi v1415 c1_i32_1199
  let c0_i32_1200 : BitVec 32 := 0#32
  let v1742 : BitVec 32 := Scalar.maxsi v1741 c0_i32_1200
  let c256_i32_1201 : BitVec 32 := 256#32
  let v1743 : BitVec 32 := Scalar.muli v1742 c256_i32_1201
  v1743
def k0_mult62 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1213 : BitVec 32 := 1#32
  let v1757 : BitVec 32 := Scalar.addi v1415 c1_i32_1213
  let c256_i32_1214 : BitVec 32 := 256#32
  let v1758 : BitVec 32 := Scalar.muli v1757 c256_i32_1214
  v1758
def k0_mult63 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1227 : BitVec 32 := 1#32
  let v1772 : BitVec 32 := Scalar.subi v1415 c1_i32_1227
  let c0_i32_1228 : BitVec 32 := 0#32
  let v1773 : BitVec 32 := Scalar.maxsi v1772 c0_i32_1228
  let c256_i32_1229 : BitVec 32 := 256#32
  let v1774 : BitVec 32 := Scalar.muli v1773 c256_i32_1229
  v1774
def k0_mult64 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1241 : BitVec 32 := 1#32
  let v1788 : BitVec 32 := Scalar.addi v1415 c1_i32_1241
  let c256_i32_1242 : BitVec 32 := 256#32
  let v1789 : BitVec 32 := Scalar.muli v1788 c256_i32_1242
  v1789
def k0_mult65 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c0_i32_988 : BitVec 32 := 0#32
  let v1415 : BitVec 32 := Scalar.subi v1414 c0_i32_988
  let c1_i32_1255 : BitVec 32 := 1#32
  let v1803 : BitVec 32 := Scalar.subi v1415 c1_i32_1255
  let c0_i32_1256 : BitVec 32 := 0#32
  let v1804 : BitVec 32 := Scalar.maxsi v1803 c0_i32_1256
  let c256_i32_1257 : BitVec 32 := 256#32
  let v1805 : BitVec 32 := Scalar.muli v1804 c256_i32_1257
  v1805
def k0_mult66 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1422 : BitVec 32 := 1#32
  let v2119 : BitVec 32 := Scalar.addi v1963 c1_i32_1422
  let c256_i32_1423 : BitVec 32 := 256#32
  let v2120 : BitVec 32 := Scalar.muli v2119 c256_i32_1423
  v2120
def k0_mult67 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1436 : BitVec 32 := 1#32
  let v2134 : BitVec 32 := Scalar.subi v1963 c1_i32_1436
  let c0_i32_1437 : BitVec 32 := 0#32
  let v2135 : BitVec 32 := Scalar.maxsi v2134 c0_i32_1437
  let c256_i32_1438 : BitVec 32 := 256#32
  let v2136 : BitVec 32 := Scalar.muli v2135 c256_i32_1438
  v2136
def k0_mult68 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1451 : BitVec 32 := 1#32
  let v2150 : BitVec 32 := Scalar.addi v1963 c1_i32_1451
  let c256_i32_1452 : BitVec 32 := 256#32
  let v2151 : BitVec 32 := Scalar.muli v2150 c256_i32_1452
  v2151
def k0_mult69 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1465 : BitVec 32 := 1#32
  let v2165 : BitVec 32 := Scalar.subi v1963 c1_i32_1465
  let c0_i32_1466 : BitVec 32 := 0#32
  let v2166 : BitVec 32 := Scalar.maxsi v2165 c0_i32_1466
  let c256_i32_1467 : BitVec 32 := 256#32
  let v2167 : BitVec 32 := Scalar.muli v2166 c256_i32_1467
  v2167
def k0_mult70 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1480 : BitVec 32 := 1#32
  let v2181 : BitVec 32 := Scalar.addi v1963 c1_i32_1480
  let c256_i32_1481 : BitVec 32 := 256#32
  let v2182 : BitVec 32 := Scalar.muli v2181 c256_i32_1481
  v2182
def k0_mult71 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1494 : BitVec 32 := 1#32
  let v2196 : BitVec 32 := Scalar.subi v1963 c1_i32_1494
  let c0_i32_1495 : BitVec 32 := 0#32
  let v2197 : BitVec 32 := Scalar.maxsi v2196 c0_i32_1495
  let c256_i32_1496 : BitVec 32 := 256#32
  let v2198 : BitVec 32 := Scalar.muli v2197 c256_i32_1496
  v2198
def k0_mult72 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1509 : BitVec 32 := 1#32
  let v2212 : BitVec 32 := Scalar.addi v1963 c1_i32_1509
  let c256_i32_1510 : BitVec 32 := 256#32
  let v2213 : BitVec 32 := Scalar.muli v2212 c256_i32_1510
  v2213
def k0_mult73 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1523 : BitVec 32 := 1#32
  let v2227 : BitVec 32 := Scalar.subi v1963 c1_i32_1523
  let c0_i32_1524 : BitVec 32 := 0#32
  let v2228 : BitVec 32 := Scalar.maxsi v2227 c0_i32_1524
  let c256_i32_1525 : BitVec 32 := 256#32
  let v2229 : BitVec 32 := Scalar.muli v2228 c256_i32_1525
  v2229
def k0_mult74 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1538 : BitVec 32 := 1#32
  let v2243 : BitVec 32 := Scalar.addi v1963 c1_i32_1538
  let c256_i32_1539 : BitVec 32 := 256#32
  let v2244 : BitVec 32 := Scalar.muli v2243 c256_i32_1539
  v2244
def k0_mult75 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1552 : BitVec 32 := 1#32
  let v2258 : BitVec 32 := Scalar.subi v1963 c1_i32_1552
  let c0_i32_1553 : BitVec 32 := 0#32
  let v2259 : BitVec 32 := Scalar.maxsi v2258 c0_i32_1553
  let c256_i32_1554 : BitVec 32 := 256#32
  let v2260 : BitVec 32 := Scalar.muli v2259 c256_i32_1554
  v2260
def k0_mult76 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1567 : BitVec 32 := 1#32
  let v2274 : BitVec 32 := Scalar.addi v1963 c1_i32_1567
  let c256_i32_1568 : BitVec 32 := 256#32
  let v2275 : BitVec 32 := Scalar.muli v2274 c256_i32_1568
  v2275
def k0_mult77 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1581 : BitVec 32 := 1#32
  let v2289 : BitVec 32 := Scalar.subi v1963 c1_i32_1581
  let c0_i32_1582 : BitVec 32 := 0#32
  let v2290 : BitVec 32 := Scalar.maxsi v2289 c0_i32_1582
  let c256_i32_1583 : BitVec 32 := 256#32
  let v2291 : BitVec 32 := Scalar.muli v2290 c256_i32_1583
  v2291
def k0_mult78 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1596 : BitVec 32 := 1#32
  let v2305 : BitVec 32 := Scalar.addi v1963 c1_i32_1596
  let c256_i32_1597 : BitVec 32 := 256#32
  let v2306 : BitVec 32 := Scalar.muli v2305 c256_i32_1597
  v2306
def k0_mult79 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1610 : BitVec 32 := 1#32
  let v2320 : BitVec 32 := Scalar.subi v1963 c1_i32_1610
  let c0_i32_1611 : BitVec 32 := 0#32
  let v2321 : BitVec 32 := Scalar.maxsi v2320 c0_i32_1611
  let c256_i32_1612 : BitVec 32 := 256#32
  let v2322 : BitVec 32 := Scalar.muli v2321 c256_i32_1612
  v2322
def k0_mult80 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1625 : BitVec 32 := 1#32
  let v2336 : BitVec 32 := Scalar.addi v1963 c1_i32_1625
  let c256_i32_1626 : BitVec 32 := 256#32
  let v2337 : BitVec 32 := Scalar.muli v2336 c256_i32_1626
  v2337
def k0_mult81 (i : grid0.Coords) (k0_t2 : Fin (k0_t2_loop i).trips) : BitVec 32 :=
  let c4_i32_37 : BitVec 32 := 4#32
  let arg2 : BitVec 32 := BitVec.ofNat 32 (i 2).val
  let v58 : BitVec 32 := Scalar.muli c4_i32_37 arg2
  let c1_i32_38 : BitVec 32 := 1#32
  let v59 : BitVec 32 := Scalar.subi v58 c1_i32_38
  let c2_i32_987 : BitVec 32 := 2#32
  let c0_i32_864 : BitVec 32 := 0#32
  let c4_i32_855 : BitVec 32 := 4#32
  let v1282 : BitVec 32 := Scalar.muli c4_i32_855 arg2
  let c0_i32_857 : BitVec 32 := 0#32
  let v1284 : BitVec 1 := Scalar.cmpi .sgt v1282 c0_i32_857
  let v1285 : BitVec 32 := Scalar.extui v1284
  let c0_i32_858 : BitVec 32 := 0#32
  let v1286 : BitVec 1 := Scalar.cmpi .slt v1282 c0_i32_858
  let v1287 : BitVec 32 := Scalar.extui v1286
  let v1288 : BitVec 32 := Scalar.subi v1285 v1287
  let c2_i32_856 : BitVec 32 := 2#32
  let c0_i32_859 : BitVec 32 := 0#32
  let v1289 : BitVec 1 := Scalar.cmpi .sgt c2_i32_856 c0_i32_859
  let v1290 : BitVec 32 := Scalar.extui v1289
  let c0_i32_860 : BitVec 32 := 0#32
  let v1291 : BitVec 1 := Scalar.cmpi .slt c2_i32_856 c0_i32_860
  let v1292 : BitVec 32 := Scalar.extui v1291
  let v1293 : BitVec 32 := Scalar.subi v1290 v1292
  let v1294 : BitVec 1 := Scalar.cmpi .ne v1288 v1293
  let v1295 : BitVec 32 := Scalar.remsi v1282 c2_i32_856
  let c0_i32_861 : BitVec 32 := 0#32
  let v1296 : BitVec 1 := Scalar.cmpi .ne v1295 c0_i32_861
  let v1297 : BitVec 1 := Scalar.andi v1294 v1296
  let v1283 : BitVec 32 := Scalar.divsi v1282 c2_i32_856
  let c1_i32_862 : BitVec 32 := 1#32
  let v1298 : BitVec 32 := Scalar.subi v1283 c1_i32_862
  let v1299 : BitVec 32 := Scalar.select v1297 v1298 v1283
  let v1300 : BitVec 32 := Scalar.subi v1299 c0_i32_864
  let c1_i32_865 : BitVec 32 := 1#32
  let v1302 : BitVec 32 := Scalar.divsi v1300 c1_i32_865
  let v1303 : BitVec 32 := Scalar.muli v1302 c1_i32_865
  let v1304 : BitVec 32 := Scalar.addi c0_i32_864 v1303
  let c1_i32_867 : BitVec 32 := 1#32
  let arg13 : BitVec 32 := Scf.iv v1304 c1_i32_867 k0_t2
  let v1413 : BitVec 32 := Scalar.muli c2_i32_987 arg13
  let v1414 : BitVec 32 := Scalar.subi v59 v1413
  let c1_i32_1365 : BitVec 32 := 1#32
  let v1963 : BitVec 32 := Scalar.subi v1414 c1_i32_1365
  let c1_i32_1639 : BitVec 32 := 1#32
  let v2351 : BitVec 32 := Scalar.subi v1963 c1_i32_1639
  let c0_i32_1640 : BitVec 32 := 0#32
  let v2352 : BitVec 32 := Scalar.maxsi v2351 c0_i32_1640
  let c256_i32_1641 : BitVec 32 := 256#32
  let v2353 : BitVec 32 := Scalar.muli v2352 c256_i32_1641
  v2353
def k0_mult82 : BitVec 32 :=
  let c0_i32_868 : BitVec 32 := 0#32
  c0_i32_868
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x8192x512 : Shape := ⟨3, ![8, 8192, 512]⟩
abbrev S8x8192x8x64 : Shape := ⟨4, ![8, 8192, 8, 64]⟩
abbrev S8x8x8192x8192 : Shape := ⟨4, ![8, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8x64x8192 : Shape := ⟨4, ![8, 8, 64, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x8192x8x64, .f32⟩
  | .hbm, ⟨4, _⟩ => ⟨S8x8192x8x64, .f32⟩
  | .hbm, ⟨5, _⟩ => ⟨S8x8x8192x8192, .f32⟩
  | .hbm, ⟨6, _⟩ => ⟨S_, .f32⟩
  | .hbm, ⟨7, _⟩ => ⟨S8x8x8192x8192, .f32⟩
  | .hbm, ⟨8, _⟩ => ⟨S8x8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8x8x8192x8192, .f32⟩
  | .hbm, ⟨16, _⟩ => ⟨S_, .f32⟩
  | .hbm, ⟨17, _⟩ => ⟨S8x8x8192x8192, .f32⟩
  | .hbm, ⟨18, _⟩ => ⟨S8x8x8192x8192, .f32⟩
  | .hbm, ⟨19, _⟩ => ⟨S8x8x8192x8192, .f32⟩
  | .hbm, ⟨20, _⟩ => ⟨S8x8x8192x8192, .f32⟩
  | .hbm, ⟨21, _⟩ => ⟨S8x8x8192x8192, .i1⟩
  | .hbm, ⟨22, _⟩ => ⟨S8x8x8192x8192, .f32⟩
  | .hbm, ⟨23, _⟩ => ⟨S8x8x8192x8192, .f32⟩
  | .hbm, ⟨24, _⟩ => ⟨S8x8x8192x8192, .f32⟩
  | .hbm, ⟨25, _⟩ => ⟨S8x8x8192x8192, .f32⟩
  | .hbm, ⟨26, _⟩ => ⟨S8x8x8192x8192, .f32⟩
  | .hbm, ⟨27, _⟩ => ⟨S8x8x8192x8192, .f32⟩
  | .hbm, ⟨28, _⟩ => ⟨S8x8x8192x8192, .f32⟩
  | .hbm, ⟨29, _⟩ => ⟨S8x8x8192x8192, .f32⟩
  | .hbm, ⟨30, _⟩ => ⟨S8x8x8192x8192, .f32⟩
  | .hbm, ⟨31, _⟩ => ⟨S8x8x8192x8192, .f32⟩
  | .hbm, ⟨32, _⟩ => ⟨S8x8x8192x8192, .f32⟩
  | .hbm, ⟨33, _⟩ => ⟨S_, .f32⟩
  | .hbm, ⟨34, _⟩ => ⟨S8x8x8192x8192, .f32⟩
  | .hbm, ⟨35, _⟩ => ⟨S8x8x8192x8192, .f32⟩
  | .hbm, ⟨36, _⟩ => ⟨S8x8x8192x8192, .f32⟩
  | .hbm, ⟨37, _⟩ => ⟨S8x8x8192x8192, .f32⟩
  | .hbm, ⟨38, _⟩ => ⟨S8x8x8192x8192, .i1⟩
  | .hbm, ⟨39, _⟩ => ⟨S8x8x8192x8192, .f32⟩
  | .hbm, ⟨40, _⟩ => ⟨S8x8x8192x8192, .f32⟩
  | .hbm, ⟨41, _⟩ => ⟨S8x8x8192x8192, .f32⟩
  | .hbm, ⟨42, _⟩ => ⟨S8x8x8192x8192, .f32⟩
  | .hbm, ⟨43, _⟩ => ⟨S8x8x8192x8192, .f32⟩
  | .hbm, ⟨44, _⟩ => ⟨S8x8x8192x8192, .f32⟩
  | .hbm, ⟨45, _⟩ => ⟨S8x8x8192x8192, .f32⟩
  | .hbm, ⟨46, _⟩ => ⟨S8x8x8192x8192, .f32⟩
  | .hbm, ⟨47, _⟩ => ⟨S8x8x8192x8192, .f32⟩
  | .hbm, ⟨48, _⟩ => ⟨S_, .f32⟩
  | .hbm, ⟨49, _⟩ => ⟨S_, .f32⟩
  | .hbm, ⟨50, _⟩ => ⟨S8x8x8192x8192, .i1⟩
  | .hbm, ⟨51, _⟩ => ⟨S8x8x8192x8192, .f32⟩
  | .hbm, ⟨52, _⟩ => ⟨S8x8x8192x8192, .f32⟩
  | .hbm, ⟨53, _⟩ => ⟨S_, .f32⟩
  | .hbm, ⟨54, _⟩ => ⟨S_, .f32⟩
  | .hbm, ⟨55, _⟩ => ⟨S8x8x8192x8192, .f32⟩
  | .hbm, ⟨56, _⟩ => ⟨S8x8x8192x8192, .f32⟩
  | .hbm, ⟨57, _⟩ => ⟨S8x8x8192x8192, .f32⟩
  | .hbm, ⟨58, _⟩ => ⟨S8x8x8192x8192, .f32⟩
  | .hbm, ⟨59, _⟩ => ⟨S_, .f32⟩
  | .hbm, ⟨60, _⟩ => ⟨S_, .f32⟩
  | .hbm, ⟨61, _⟩ => ⟨S8x8x8192x8192, .i1⟩
  | .hbm, ⟨62, _⟩ => ⟨S8x8x8192x8192, .f32⟩
  | .hbm, ⟨63, _⟩ => ⟨S8x8x8192x8192, .f32⟩
  | .hbm, ⟨64, _⟩ => ⟨S8x8192x8x64, .f32⟩
  | .hbm, ⟨65, _⟩ => ⟨S8x8x64x8192, .f32⟩
  | .hbm, ⟨66, _⟩ => ⟨S8x8192x8x64, .f32⟩
  | .hbm, ⟨67, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v13 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v14 : Ref sig .tc := ⟨.hbm, 52, rfl⟩
abbrev main_call3_cst : Ref sig .tc := ⟨.hbm, 53, rfl⟩
abbrev main_call3_v0 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩

abbrev nD : Nat := 1
abbrev τ : Topo := Topo.v7x

variable {F : FTy → Type} [FloatOps F]
-- ==== Premix.lean ====
abbrev S8x8192x1024 : Shape := ⟨3, ![8, 8192, 1024]⟩
abbrev S8x1024 : Shape := ⟨2, ![8, 1024]⟩
abbrev S1024 : Shape := ⟨1, ![1024]⟩
abbrev S1024x3072 : Shape := ⟨2, ![1024, 3072]⟩
abbrev S8x1x1024 : Shape := ⟨3, ![8, 1, 1024]⟩
abbrev S1x1024 : Shape := ⟨2, ![1, 1024]⟩
abbrev S8x8192x1536 : Shape := ⟨3, ![8, 8192, 1536]⟩
abbrev S8x8192x512 : Shape := ⟨3, ![8, 8192, 512]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 13
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3072, .f32⟩
  | .hbm, ⟨5, _⟩ => ⟨S8x1x1024, .f32⟩
  | .hbm, ⟨6, _⟩ => ⟨S8x1x1024, .f32⟩
  | .hbm, ⟨7, _⟩ => ⟨S1024x3072, .bf16⟩
  | .hbm, ⟨8, _⟩ => ⟨S1x1024, .f32⟩
  | .hbm, ⟨9, _⟩ => ⟨S8x8192x1536, .f32⟩
  | .hbm, ⟨10, _⟩ => ⟨S8x8192x512, .bf16⟩
  | .hbm, ⟨11, _⟩ => ⟨S8x8192x512, .bf16⟩
  | .hbm, ⟨12, _⟩ => ⟨S8x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1x512x1536, .f32⟩
  | .local _ .vmem, ⟨9, _⟩ => ⟨S1x512x1536, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PremixIdeal.lean ====
variable {F : FTy → Type} [FloatOps F] [Named F]
def κ : String → Option EReal := fun
  | "score_scale" => some (((8 * (Real.log 2))⁻¹ : ℝ) : EReal)
  | _ => none
-- ==== PremixReferenceIdeal.lean ====
abbrev S8x8192x1024 : Shape := ⟨3, ![8, 8192, 1024]⟩
abbrev S8x1024 : Shape := ⟨2, ![8, 1024]⟩
abbrev S1024 : Shape := ⟨1, ![1024]⟩
abbrev S1024x3072 : Shape := ⟨2, ![1024, 3072]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8192x3072 : Shape := ⟨3, ![8, 8192, 3072]⟩
abbrev S8x8192x512 : Shape := ⟨3, ![8, 8192, 512]⟩
abbrev S8x8192x1536 : Shape := ⟨3, ![8, 8192, 1536]⟩

abbrev nBuf : Space → Nat
  | .hbm => 50
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3072, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x8192x1024, .f32⟩
  | .hbm, ⟨26, _⟩ => ⟨S8x8192x1024, .f32⟩
  | .hbm, ⟨27, _⟩ => ⟨S8x1x1024, .f32⟩
  | .hbm, ⟨28, _⟩ => ⟨S8x8192x1024, .f32⟩
  | .hbm, ⟨29, _⟩ => ⟨S8x8192x1024, .f32⟩
  | .hbm, ⟨30, _⟩ => ⟨S8x8192x3072, .f32⟩
  | .hbm, ⟨31, _⟩ => ⟨S8x8192x512, .f32⟩
  | .hbm, ⟨32, _⟩ => ⟨S8x8192x1024, .f32⟩
  | .hbm, ⟨33, _⟩ => ⟨S8x8192x512, .f32⟩
  | .hbm, ⟨34, _⟩ => ⟨S8x8192x512, .f32⟩
  | .hbm, ⟨35, _⟩ => ⟨S8x8192x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x8192x512, .f32⟩
  | .hbm, ⟨42, _⟩ => ⟨S8x8192x512, .f32⟩
  | .hbm, ⟨43, _⟩ => ⟨S8x8192x1536, .f32⟩
  | .hbm, ⟨44, _⟩ => ⟨S_, .f32⟩
  | .hbm, ⟨45, _⟩ => ⟨S8x8192x512, .f32⟩
  | .hbm, ⟨46, _⟩ => ⟨S8x8192x512, .f32⟩
  | .hbm, ⟨47, _⟩ => ⟨S8x8192x512, .bf16⟩
  | .hbm, ⟨48, _⟩ => ⟨S8x8192x512, .bf16⟩
  | .hbm, ⟨49, _⟩ => ⟨S8x8192x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Ref.lean ====
module

public import proofs.«01_k».proof.Proof.Gen.ReferenceIdeal.Run
public import proofs.«01_k».proof.Proof.Gen.ReferenceIdeal.Read

@[expose] public section
end
-- ==== Proof.BitsRun.lean ====
/- The kernel's body of `Kernel` run once at symbolic operands: it comes to its end and leaves its inputs as they were. -/
module

public import proofs.«01_k».proof.Proof.Gen.Kernel.Loops
public import proofs.«01_k».proof.Proof.Gen.Kernel.Frame
public import Idealize.ShloMosaic.Lib.Claim

@[expose] public section

set_option maxRecDepth 65536

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M`'s contents on its core. -/
abbrev Bf {sp : Space} {S : Shape} {e : EltTy} (M : Memref sig .tc sp S e) : Type := BufTy.Contents (Elt F) M.view.ty

/-- Memref `M`'s part of its buffer on core `c`, held whole at contents `f`. -/
abbrev pt (c : Dev nD) {sp : Space} {S : Shape} {e : EltTy} (M : Memref sig .tc sp S e) (f : Bf (F := F) M) : sProp 𝕄 :=
  iprop(M.view.loc (c : Thread nD τ) ↦[M.view.set]{fullShare} f)

/-- From its ten buffers held whole the body runs to its end: the four inputs as they were, the output and the scratch at something. -/
theorem bodyRun (c : Dev nD) (i : grid0.Coords)
    (M3 : Memref sig .tc .vmem S1x1024x128 .bf16) (h3 : M3.IsWhole) (M4 : Memref sig .tc .vmem S1x8192x128 .bf16) (h4 : M4.IsWhole)
    (M5 : Memref sig .tc .vmem S1x8192x128 .bf16) (h5 : M5.IsWhole) (M6 : Memref sig .tc .vmem S512x256 .bf16) (h6 : M6.IsWhole)
    (M7 : Memref sig .tc .vmem S1x1024x128 .f32) (h7 : M7.IsWhole) (M8 : Memref sig .tc .vmem S8x256x128 .bf16) (h8 : M8.IsWhole)
    (M9 : Memref sig .tc .vmem S48x256x256 .f32) (h9 : M9.IsWhole) (M10 : Memref sig .tc .vmem S8x256x256 .bf16) (h10 : M10.IsWhole)
    (M11 : Memref sig .tc .vmem S8x256x128 .f32) (h11 : M11.IsWhole) (M12 : Memref sig .tc .vmem S8x256x128 .f32) (h12 : M12.IsWhole)
    (f3 : Bf (F := F) M3) (f4 : Bf (F := F) M4) (f5 : Bf (F := F) M5) (f6 : Bf (F := F) M6)
    (f7 : Bf (F := F) M7) (f8 : Bf (F := F) M8) (f9 : Bf (F := F) M9) (f10 : Bf (F := F) M10) (f11 : Bf (F := F) M11)
    (f12 : Bf (F := F) M12) (E : Set ℕ) (Q : PUnit → sProp 𝕄) :
        iprop(pt c M3 f3 ∗ pt c M4 f4 ∗ pt c M5 f5 ∗ pt c M6 f6 ∗ pt c M7 f7 ∗ pt c M8 f8 ∗ pt c M9 f9 ∗ pt c M10 f10
          ∗ pt c M11 f11 ∗ pt c M12 f12
          ∗ (iprop(pt c M3 f3 ∗ pt c M4 f4 ∗ pt c M5 f5 ∗ pt c M6 f6 ∗ (∃ f, pt c M7 f)
                ∗ (∃ f, pt c M8 f) ∗ (∃ f, pt c M9 f) ∗ (∃ f, pt c M10 f) ∗ (∃ f, pt c M11 f) ∗ (∃ f, pt c M12 f)) -∗ Q ⟨⟩))
        ⊢ wp frame (wpE (defs₀ (F := F)) Variants.none (c : Thread nD τ) none) E
            (cc0_stick i M3 h3 M4 h4 M5 h5 M6 h6 M7 h7 M8 h8 M9 h9 M10 h10 M11 h11 M12 h12) Q := by
  simp only [cc0_stick_eq_skeleton]; unfold cc0_stick_skel
  iintro ⟨H3, H4, H5, H6, H7, H8, H9, H10, H11, H12, Hk⟩
  sl_exec
  sl_step
  iapply Hk
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

end Cert.Proof.Bits

end
-- ==== Proof.IdealRun.lean ====
/- The kernel's body of `KernelIdeal` run once at symbolic operands: what it stores into its output block, as a
   function of the contents it starts from. -/
module

public import proofs.«01_k».proof.Proof.Gen.KernelIdeal.Loops
public import proofs.«01_k».proof.Proof.Gen.KernelIdeal.Frame
public import Idealize.ShloMosaic.Lib.Claim

@[expose] public section

set_option maxRecDepth 65536

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Memref `M`'s contents on its core. -/
abbrev Bf {sp : Space} {S : Shape} {e : EltTy} (M : Memref sig .tc sp S e) : Type := BufTy.Contents (Elt F) M.view.ty

/-- Memref `M`'s part of its buffer on core `c`, held whole at contents `f`. -/
abbrev pt (c : Dev nD) {sp : Space} {S : Shape} {e : EltTy} (M : Memref sig .tc sp S e) (f : Bf (F := F) M) : sProp 𝕄 :=
  iprop(M.view.loc (c : Thread nD τ) ↦[M.view.set]{fullShare} f)

/-- The pieces the body stores into the output block, together with the proof that from its ten buffers held whole the body runs
    to its end, the four inputs as they were, the output at those pieces, the scratch at something. -/
@[irreducible] def bodyRun (c : Dev nD) (i : grid0.Coords)
    (M3 : Memref sig .tc .vmem S1x1024x128 .bf16) (h3 : M3.IsWhole) (M4 : Memref sig .tc .vmem S1x8192x128 .bf16) (h4 : M4.IsWhole)
    (M5 : Memref sig .tc .vmem S1x8192x128 .bf16) (h5 : M5.IsWhole) (M6 : Memref sig .tc .vmem S512x256 .bf16) (h6 : M6.IsWhole)
    (M7 : Memref sig .tc .vmem S1x1024x128 .f32) (h7 : M7.IsWhole) (M8 : Memref sig .tc .vmem S8x256x128 .bf16) (h8 : M8.IsWhole)
    (M9 : Memref sig .tc .vmem S48x256x256 .f32) (h9 : M9.IsWhole) (M10 : Memref sig .tc .vmem S8x256x256 .bf16) (h10 : M10.IsWhole)
    (M11 : Memref sig .tc .vmem S8x256x128 .f32) (h11 : M11.IsWhole) (M12 : Memref sig .tc .vmem S8x256x128 .f32) (h12 : M12.IsWhole)
    (f3 : Bf (F := F) M3) (f4 : Bf (F := F) M4) (f5 : Bf (F := F) M5) (f6 : Bf (F := F) M6) :
    { L : Bf (F := F) M8 → Bf (F := F) M9 → Bf (F := F) M10 → Bf (F := F) M11 → Bf (F := F) M12 →
        List (View.Piece (Elt F) S1x1024x128 .f32) //
      ∀ (f7 : Bf (F := F) M7) (f8 : Bf (F := F) M8) (f9 : Bf (F := F) M9) (f10 : Bf (F := F) M10) (f11 : Bf (F := F) M11)
        (f12 : Bf (F := F) M12) (E : Set ℕ) (Q : PUnit → sProp 𝕄),
        iprop(pt c M3 f3 ∗ pt c M4 f4 ∗ pt c M5 f5 ∗ pt c M6 f6 ∗ pt c M7 f7 ∗ pt c M8 f8 ∗ pt c M9 f9 ∗ pt c M10 f10
          ∗ pt c M11 f11 ∗ pt c M12 f12
          ∗ (iprop(pt c M3 f3 ∗ pt c M4 f4 ∗ pt c M5 f5 ∗ pt c M6 f6 ∗ pt c M7 (M7.view.writes (Elt F) f7 (L f8 f9 f10 f11 f12))
                ∗ (∃ f, pt c M8 f) ∗ (∃ f, pt c M9 f) ∗ (∃ f, pt c M10 f) ∗ (∃ f, pt c M11 f) ∗ (∃ f, pt c M12 f)) -∗ Q ⟨⟩))
        ⊢ wp frame (wpE (defs₀ (F := F)) Variants.none (c : Thread nD τ) none) E
            (cc0_stick i M3 h3 M4 h4 M5 h5 M6 h6 M7 h7 M8 h8 M9 h9 M10 h10 M11 h11 M12 h12) Q } := by
  refine ⟨?_, fun f7 f8 f9 f10 f11 f12 E Q => ?run⟩
  case run =>
    simp only [cc0_stick_eq_skeleton]; unfold cc0_stick_skel
    iintro ⟨H3, H4, H5, H6, H7, H8, H9, H10, H11, H12, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iexists _; iexact H12

end Cert.Proof.Ideal

end
-- ==== Proof.IdealFrame.lean ====
/- The frame of `KernelIdeal`: every run ends, with the arguments as they were. What the body leaves in the result is not stated here. -/
module

public import proofs.«01_k».proof.Proof.IdealRun

@[expose] public section

noncomputable section

namespace Cert.Proof.IdealFrame

open Cert.KernelIdeal Cert.KernelIdeal.Gen Cert.Proof.Ideal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A scratch buffer held whole, as the body names it. -/
theorem pt_whole (c : Dev nD) (b : Ref sig .tc) (f : Buf (Elt F) ((c : Thread nD τ).loc b)) :
    (pt c (Memref.whole b) f : sProp 𝕄) = iprop(((c : Thread nD τ).loc b) ↦{fullShare} f) := by
  show iprop((View.whole b).loc (c : Thread nD τ) ↦[(View.whole b).set]{fullShare} f) = _
  rw [View.set_whole]

/-- A staging buffer held whole at what it reads. -/
theorem owns_pt (c : Dev nD) {sp : Space} {S : Shape} {e : EltTy} (M : Memref sig .tc sp S e) (X : S.Idx → Elt F e) :
    (owns (c : Thread nD τ) M fullShare X : sProp 𝕄) = iprop(∃ f : Bf (F := F) M, ⌜M.view.read (Elt F) f = X⌝ ∗ pt c M f) := rfl

/-- The arrays as the region finds them; the inputs' buffers stay as they are. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => FloatOps.ofBits .f32 0
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = iprop(Pipeline.scopedRest spec0 c ∗ ∃ r, prngReg c r) from rfl, scopedRest0_eq]
  simp only [owns_pt, ← pt_whole]
  iintro ⟨⟨⟨⟨%g8, G8⟩, ⟨%g9, G9⟩, ⟨%g10, G10⟩, ⟨%g11, G11⟩, ⟨%g12, G12⟩⟩, Hr⟩, Ho, ⟨%d0, %f0, %hf0, H0⟩, ⟨%d1, %f1, %hf1, H1⟩,
    ⟨%d2, %f2, %hf2, H2⟩, ⟨%d3, %f3, %hf3, H3⟩, ⟨%X4, %f4, -, H4⟩⟩
  iapply ((bodyRun c (grid0.coords t) _ _ _ _ _ _ _ _ _ _ _ _ _ _ _ _ _ _ _ _ f0 f1 f2 f3).2 f4 g8 g9 g10 g11 g12 Set.univ _)
  isplitl [H0]; · iexact H0
  isplitl [H1]; · iexact H1
  isplitl [H2]; · iexact H2
  isplitl [H3]; · iexact H3
  isplitl [H4]; · iexact H4
  isplitl [G8]; · iexact G8
  isplitl [G9]; · iexact G9
  isplitl [G10]; · iexact G10
  isplitl [G11]; · iexact G11
  isplitl [G12]; · iexact G12
  iintro ⟨H0, H1, H2, H3, H4, G8, G9, G10, G11, G12⟩
  isplitl [G8 G9 G10 G11 G12 Hr]
  · isplitl [G8 G9 G10 G11 G12]
    · isplitl [G8]; · iexact G8
      isplitl [G9]; · iexact G9
      isplitl [G10]; · iexact G10
      isplitl [G11]; · iexact G11
      iexact G12
    iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; iexists _; isplitr; swap; · iexact H4
  ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The window whose contents are not stated: the result's. -/
def hidden : Fin cfg0.W → Bool := fun w => decide (w.val = 4)

/-- The body's obligation at every point. -/
theorem body_obligation (c : Dev nD) : BodyObligationLoose (dats (F := F) m 0 c) (defs₀ (F := F)) Variants.none () Set.univ hidden := fun t => by
  rw [bigSep_W0, bigSep_W0, defs₀_row]
  exact triple_restated (sound_body m c t) rfl .rfl fun _ => .rfl

set_option backward.isDefEq.respectTransparency.types false in
/-- The launch, with every counter at zero at its end. -/
theorem run_main_quiescent : θ_run defs (onTc (τ := τ) (main (F := F))) (s₀ m ρ)
    (fun r => RDat.FramePost (cfgs 0) (fun c => (dats m 0 c).toRForget hidden) (V m) r ∧ r.2.sem = fun _ => 0) :=
  Pipeline.θ_run_frame_forget (Q' := _) cfgs (dats m) (0 : Fin 1) launch0 defs₀ Variants.none hidden m ρ main
    (hbody := body_obligation m) (hshare := fun c => (dats m 0 c).share_full fun _ => rfl)
    (howed := fun _ _ => rfl) (V := V m) (hmain := hmain m Variants.none) (hA := A_eq m) (hΦ := fun _ _ => rfl)

/-- Every run from zeroed counters ends, with the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main_quiescent m ρ)

end Cert.Proof.IdealFrame

end
-- ==== Proof.Frames.lean ====
/- The claims that every run of each program ends, and that the named constant is the one the printed program holds. -/
module

public import proofs.«01_k».proof.Defs
public import proofs.«01_k».proof.Proof.BitsLaunch
public import proofs.«01_k».proof.Proof.IdealFrame
public import proofs.«01_k».proof.Proof.Ref
public import Idealize.ShloMosaic.Lib.Quiescent

@[expose] public section

noncomputable section

namespace Cert.Proof

open Idealize.ShloMosaic Idealize.SL.Sem

/-- Every run of the kernel ends with its arguments as they were. -/
theorem frame_p : Cert.quiescent_Kernel := fun m ρ _ => Bits.frame (F := Bits) m ρ

/-- The same of the kernel over the reals. -/
theorem frame_pi : Cert.quiescent_KernelIdeal := fun m ρ _ => IdealFrame.frame (F := Ideal) m ρ

/-- The same of the reference over the reals. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every run of the kernel over the reals ends where the precondition holds. -/
theorem frame_pi_finite [Cert.Pre_finite.Facts] : Cert.quiescent_KernelIdeal_pre_finite := fun m ρ _ => frame_pi m ρ trivial

/-- Every run of the reference ends where the precondition holds. -/
theorem frame_ri_finite [Cert.Pre_finite.Facts] : Cert.quiescent_ReferenceIdeal_pre_finite := fun m ρ _ => frame_ri m ρ trivial

/-- The kernel over the reals holds 1/log 2 where the kernel holds its rounding. -/
theorem preserves : Cert.preserves_Kernel_KernelIdeal :=
  IdealRules.named_const.statement Cert.KernelIdeal.κ "log2_e" .f32 0x3FB8AA3B#32 (((Real.log 2)⁻¹ : ℝ) : EReal) rfl

end Cert.Proof

end
-- ==== Proof.Chain.lean ====
/- One chain of the kernel (a block of 256 query rows, one head) as a function of its blocks of keys and values:
   what a block of keys does to the chain's slabs in scratch. -/
module

public import proofs.«01_k».proof.Proof.IdealRun

@[expose] public section

set_option maxRecDepth 65536

noncomputable section

namespace Cert.Proof.Ideal

open Cert.KernelIdeal Cert.KernelIdeal.Gen
open Idealize.ShloMosaic Idealize.ShloMosaic.TcCoe Idealize.ShloMosaic.Tactic

variable {F : FTy → Type} [FloatOps F] [Named F]

/-- The scores of a block: queries times keys. -/
def scoresOf (qh : Vec F S1x256x128 .bf16) (K : Vec F S1x256x128 .bf16) : Vec F S1x256x256 .f32 :=
  shapeCast S1x256x256
    (matmul dot_S256x128_S256x128_S256x256_1_1_0_0_n_n none (shapeCast S256x128 qh shapeCasts_S1x256x128_S256x128)
      (shapeCast S256x128 K shapeCasts_S1x256x128_S256x128) (constant S256x256 .f32 0x00000000#32))
    shapeCasts_S256x256_S1x256x256

/-- Softplus in base two, entry by entry. -/
def softplusOf (z : Vec F S1x256x256 .f32) : FVec F S256x256 .f32 :=
  have x : FVec F S256x256 .f32 := shapeCast S256x256 z shapeCasts_S1x256x256_S256x256
  addf (maximumf x (broadcast S256x256 (Scalar.ofBits .f32 0x00000000#32)))
    (mulf (log (addf (broadcast S256x256 (Scalar.ofBits .f32 0x3F800000#32))
        (exp2 (subf (broadcast S256x256 (Scalar.ofBits .f32 0x00000000#32)) (absf x)))))
      (broadcast S256x256 (Named.named κ "log2_e" 0x3FB8AA3B#32)))

/-- Where a key stands before the query, in a block on the diagonal. -/
def beforeOf : IVec S256x256 1 :=
  cmpi .slt (iota .tc S256x256 32 [1] iota_S256x256_d1_w32) (iota .tc S256x256 32 [0] iota_S256x256_d0_w32)

/-- Softplus in base two in a block on the diagonal: nothing where the key does not stand before the query. -/
def softplusDiagOf (z : Vec F S1x256x256 .f32) : FVec F S256x256 .f32 :=
  select beforeOf (softplusOf z) (broadcast S256x256 (Scalar.ofBits .f32 0x00000000#32))

/-- The sums from a key of the block to the block's end, taken as one product of the two halves of each term and a triangle of ones. -/
def sumsOf (sp : FVec F S256x256 .f32) (tri : Vec F S512x256 .bf16) : FVec F S256x256 .f32 :=
  matmul dot_S256x512_S512x256_S256x256_1_0_0_1_n_n none
    (concatenate S256x512 1
      [⟨S256x256, truncf .bf16 sp bitsLt_bf16_f32⟩,
       ⟨S256x256, truncf .bf16 (subf sp (extf .f32 (truncf .bf16 sp bitsLt_bf16_f32) bitsLt_bf16_f32)) bitsLt_bf16_f32⟩]
      concatenates_S256x256_S256x256_S256x512_d1)
    (shapeCast S512x256 tri shapeCasts_S512x256_S512x256) (constant S256x256 .f32 0x00000000#32)

/-- The weights of a block before they are rounded: two to the score less the sum, plus what the later blocks left. -/
def expOf (z : Vec F S1x256x256 .f32) (sums : FVec F S256x256 .f32) (cy : Vec F S1x256x128 .f32) : FVec F S256x256 .f32 :=
  exp2 (addf (subf (shapeCast S256x256 z shapeCasts_S1x256x256_S256x256) sums)
    (broadcastTo S256x256
      (extractStridedSlice S256x1 ![0, 0] (shapeCast S256x128 cy shapeCasts_S1x256x128_S256x128) slices_S256x128_o0_0_S256x1)
      broadcasts_S256x1_S256x256))

/-- A block's weights as they are kept. -/
def keepOf (w : FVec F S256x256 .f32) : Vec F S1x256x256 .bf16 :=
  shapeCast S1x256x256 (truncf .bf16 w bitsLt_bf16_f32) shapeCasts_S256x256_S1x256x256

/-- The carry after a block: less the block's whole sum. -/
def carryOf (cy : Vec F S1x256x128 .f32) (sums : FVec F S256x256 .f32) : Vec F S1x256x128 .f32 :=
  shapeCast S1x256x128
    (subf (shapeCast S256x128 cy shapeCasts_S1x256x128_S256x128) (extractStridedSlice S256x128 ![0, 0] sums slices_S256x256_o0_0_S256x128))
    shapeCasts_S256x128_S1x256x128

/-- The running sum after a block: plus the weights times the values. -/
def accOf (a : Vec F S1x256x128 .f32) (w : Vec F S1x256x256 .bf16) (V : Vec F S1x256x128 .bf16) : Vec F S1x256x128 .f32 :=
  shapeCast S1x256x128
    (addf (shapeCast S256x128 a shapeCasts_S1x256x128_S256x128)
      (matmul dot_S256x256_S256x128_S256x128_1_0_0_1_n_n none (shapeCast S256x256 w shapeCasts_S1x256x256_S256x256)
        (shapeCast S256x128 V shapeCasts_S1x256x128_S256x128) (constant S256x128 .f32 0x00000000#32)))
    shapeCasts_S256x128_S1x256x128

/-- A chain's slabs: the scores of the next block, the weights of the last one, the running sum and the carry. -/
@[ext] structure Chain (F : FTy → Type) where
  z : Vec F S1x256x256 .f32
  w : Vec F S1x256x256 .bf16
  a : Vec F S1x256x128 .f32
  y : Vec F S1x256x128 .f32

/-- One block below the diagonal: the last weights meet their values `V`, the next scores are taken with the keys `K`, and the block's
    own scores become weights. -/
def Chain.next (qh : Vec F S1x256x128 .bf16) (tri : Vec F S512x256 .bf16) (K V : Vec F S1x256x128 .bf16) (s : Chain F) : Chain F where
  z := scoresOf qh K
  w := keepOf (expOf s.z (sumsOf (softplusOf s.z) tri) s.y)
  a := accOf s.a s.w V
  y := carryOf s.y (sumsOf (softplusOf s.z) tri)

end Cert.Proof.Ideal

end
-- ==== Proof.Slabs.lean ====
/- The kernel's scratch as chains: the slabs of its buffers that belong to one chain. -/
module

public import proofs.«01_k».proof.Proof.Chain
public import Idealize.ShloMosaic.Lib.Pipeline.ReadBack

@[expose] public section

set_option maxRecDepth 65536

noncomputable section

namespace Cert.Proof.Ideal

open Cert.KernelIdeal Cert.KernelIdeal.Gen
open Idealize.ShloMosaic Idealize.ShloMosaic.TcCoe Idealize.ShloMosaic.Tactic

variable {F : FTy → Type} [FloatOps F] [Named F]

section
variable {sig : RefSig} {κ : Kind} {sp : Space} {s : Shape} {e : EltTy} {Val : EltTy → Type}

/-- A load of a rectangle right after a store to it reads what was stored. -/
theorem readAt_hit (v : View sig κ sp s e) (f : v.ty.Contents Val) (r : Rect s) (w : r.shape.Idx → Val e) (L : List (View.Piece Val s e)) :
    v.readAt Val r.toLoadRect (v.writes Val f (⟨r, w⟩ :: L)) = w := by
  funext x
  exact View.read_writes_cons_emb v f r w L x

/-- The same with the rectangle's offsets written in two ways. -/
theorem readAt_hit_of (v : View sig κ sp s e) (f : v.ty.Contents Val) {off off' size : Fin s.rank → ℕ} (inb : ∀ a, off a + size a ≤ s.size a)
    (inb' : ∀ a, off' a + size a ≤ s.size a) (w : (Rect.unit off size inb).shape.Idx → Val e) (L : List (View.Piece Val s e)) (h : off' = off) :
    v.readAt Val (Rect.unit off' size inb').toLoadRect (v.writes Val f (⟨Rect.unit off size inb, w⟩ :: L)) = w := by
  subst h; exact readAt_hit v f _ w L

/-- A load skips a store to a rectangle apart from it. -/
theorem readAt_skip (v : View sig κ sp s e) (f : v.ty.Contents Val) (r : Rect s) (w : r.shape.Idx → Val e) (L : List (View.Piece Val s e)) (B : LoadRect s)
    (h : LoadRect.disj r B = true) : v.readAt Val B (v.writes Val f (⟨r, w⟩ :: L)) = v.readAt Val B (v.writes Val f L) := by
  funext j
  exact View.read_writes_cons_miss v f ⟨r, w⟩ L _ (LoadRect.idx_not_mem_of_disj h j)
end

/-- A chain's queries in scratch. -/
abbrev queries (M8 : Memref sig .tc .vmem S8x256x128 .bf16) (f8 : Bf (F := F) M8) (n : Fin 8) : Vec F S1x256x128 .bf16 :=
  M8.view.readAt (Elt F) (Rect.unit (s := S8x256x128) ![n.val, 0, 0] S1x256x128.size (by fin_cases n <;> decide)).toLoadRect f8

/-- The triangle as it is read. -/
abbrev triangle (M6 : Memref sig .tc .vmem S512x256 .bf16) (f6 : Bf (F := F) M6) : Vec F S512x256 .bf16 :=
  M6.view.readAt (Elt F) (Rect.unit (s := S512x256) ![0, 0] S512x256.size (by decide)).toLoadRect f6

/-- The 256 rows of keys or values at an offset. -/
abbrev rowsAt (M : Memref sig .tc .vmem S1x8192x128 .bf16) (f : Bf (F := F) M) (off : Fin 3 → ℕ)
    (inb : ∀ a, off a + S1x256x128.size a ≤ S1x8192x128.size a) : Vec F S1x256x128 .bf16 :=
  M.view.readAt (Elt F) (Rect.unit (s := S1x8192x128) off S1x256x128.size inb).toLoadRect f

/-- Chain `c`'s slabs in scratch. -/
def slabs (M9 : Memref sig .tc .vmem S48x256x256 .f32) (M10 : Memref sig .tc .vmem S8x256x256 .bf16)
    (M11 : Memref sig .tc .vmem S8x256x128 .f32) (M12 : Memref sig .tc .vmem S8x256x128 .f32)
    (f9 : Bf (F := F) M9) (f10 : Bf (F := F) M10) (f11 : Bf (F := F) M11) (f12 : Bf (F := F) M12) (c : Fin 8) : Chain F where
  z := M9.view.readAt (Elt F) (Rect.unit (s := S48x256x256) ![c.val, 0, 0] S1x256x256.size (by fin_cases c <;> decide)).toLoadRect f9
  w := M10.view.readAt (Elt F) (Rect.unit (s := S8x256x256) ![c.val, 0, 0] S1x256x256.size (by fin_cases c <;> decide)).toLoadRect f10
  a := M11.view.readAt (Elt F) (Rect.unit (s := S8x256x128) ![c.val, 0, 0] S1x256x128.size (by fin_cases c <;> decide)).toLoadRect f11
  y := M12.view.readAt (Elt F) (Rect.unit (s := S8x256x128) ![c.val, 0, 0] S1x256x128.size (by fin_cases c <;> decide)).toLoadRect f12

end Cert.Proof.Ideal

end
-- ==== Proof.Entry.lean ====
/- Every chain's slabs before the kernel's loop: its diagonal block and the blocks after it up to the tile's first. -/
module

public import proofs.«01_k».proof.Proof.Slabs
public import Idealize.ShloMosaic.Lib.VecWindow

@[expose] public section

set_option maxRecDepth 65536

noncomputable section

namespace Cert.Proof.Ideal

open Cert.KernelIdeal Cert.KernelIdeal.Gen
open Idealize.ShloMosaic Idealize.ShloMosaic.TcCoe Idealize.ShloMosaic.Tactic

variable {F : FTy → Type} [FloatOps F] [Named F]

/-- A slab of zeros. -/
def zeroSlab : Vec F S1x256x128 .f32 := broadcast S1x256x128 (Scalar.ofBits .f32 0x00000000#32)

/-- A chain's first block, on the diagonal: the scores are masked, and nothing came before. -/
def Chain.first (qh : Vec F S1x256x128 .bf16) (tri : Vec F S512x256 .bf16) (K : Vec F S1x256x128 .bf16) (z : Vec F S1x256x256 .f32) : Chain F where
  z := scoresOf qh K
  w := keepOf (select beforeOf (expOf z (sumsOf (softplusDiagOf z) tri) zeroSlab) (broadcast S256x256 (Scalar.ofBits .f32 0x00000000#32)))
  a := zeroSlab
  y := carryOf zeroSlab (sumsOf (softplusDiagOf z) tri)

/-- Where a lane belongs to a tile's first head. -/
def headOf : IVec S256x128 1 := cmpi .slt (iota .tc S256x128 32 [1] iota_S256x128_d1_w32) (broadcast S256x128 64#32)

/-- A chain's queries: the block's rows at the lanes of its head, zeros at the other head's. -/
def queryOf (n : Fin 8) (q : Vec F S1x256x128 .bf16) : Vec F S1x256x128 .bf16 :=
  have x : FVec F S256x128 .bf16 := shapeCast S256x128 q shapeCasts_S1x256x128_S256x128
  have o : FVec F S256x128 .bf16 := broadcast S256x128 (Scalar.ofBits .bf16 0x0000#16)
  shapeCast S1x256x128 (if n.val % 2 = 0 then select headOf x o else select headOf o x) shapeCasts_S256x128_S1x256x128

/-- A load after a fill of the whole buffer reads the fill. -/
theorem readAt_fill {sig : RefSig} {κ : Kind} {sp : Space} {s : Shape} {e : EltTy} {Val : EltTy → Type} (v : View sig κ sp s e)
    (f : v.ty.Contents Val) {off : Fin s.rank → ℕ} (inb : ∀ a, off a + s.size a ≤ s.size a) (Z : s.Idx → Val e)
    (L : List (View.Piece Val s e)) (r : Rect s) :
    v.readAt Val r.toLoadRect (v.writes Val f (⟨Rect.unit off (no_index s.size) inb, Z⟩ :: L)) = View.ld Z r := by
  funext x
  exact congrFun (View.read_writes_full v f inb Z L) (r.idx x)

/-- Two blocks side by side. -/
def sideBySide (a b : FVec F S256x256 .bf16) : FVec F S256x512 .bf16 :=
  concatenate S256x512 1 [⟨S256x256, a⟩, ⟨S256x256, b⟩] concatenates_S256x256_S256x256_S256x512_d1

/-- The same in the words of the operation. -/
theorem concatenate_eq (a b : FVec F S256x256 .bf16) (h) :
    concatenate S256x512 1 [⟨S256x256, a⟩, ⟨S256x256, b⟩] h = sideBySide a b := rfl

section
variable (i : grid0.Coords)
    (M3 : Memref sig .tc .vmem S1x1024x128 .bf16) (M4 : Memref sig .tc .vmem S1x8192x128 .bf16)
    (M5 : Memref sig .tc .vmem S1x8192x128 .bf16) (M6 : Memref sig .tc .vmem S512x256 .bf16)
    (M8 : Memref sig .tc .vmem S8x256x128 .bf16)
    (M9 : Memref sig .tc .vmem S48x256x256 .f32) (M10 : Memref sig .tc .vmem S8x256x256 .bf16)
    (M11 : Memref sig .tc .vmem S8x256x128 .f32) (M12 : Memref sig .tc .vmem S8x256x128 .f32)
    (f3 : Bf (F := F) M3) (f4 : Bf (F := F) M4) (f5 : Bf (F := F) M5) (f6 : Bf (F := F) M6) (f9 : Bf (F := F) M9)

/-- The chains' queries as the body writes them. -/
abbrev entryQ : Bf (F := F) M8 := M8.view.writes (Elt F) M8.view.junk (bodyRun.sl.H8_8 M3 f3)

/-- Chain `n`'s slabs before the loop. -/
abbrev entry (n : Fin 8) : Chain F :=
  slabs M9 M10 M11 M12 (M9.view.writes (Elt F) f9 (bodyRun.sl.H9_28 i M3 M4 M8 f3 f4))
    (M10.view.writes (Elt F) M10.view.junk (bodyRun.sl.H10_20 i M3 M4 M6 M8 M9 M12 f3 f4 f6))
    (M11.view.writes (Elt F) M11.view.junk (bodyRun.sl.H11_13 i M3 M4 M5 M6 M8 M9 M10 M11 M12 f3 f4 f5 f6))
    (M12.view.writes (Elt F) M12.view.junk (bodyRun.sl.H12_21 i M3 M4 M6 M8 M9 M12 f3 f4 f6)) n

/-- The queries the body writes, from the block of queries it was given. -/
theorem queries_entryQ (n : Fin 8) :
    queries M8 (entryQ M3 M8 f3) n
      = queryOf n (M3.view.readAt (Elt F) (Rect.unit (s := S1x1024x128) ![0, 256 * (n.val / 2), 0] S1x256x128.size
          (by fin_cases n <;> decide)).toLoadRect f3) := by
  unfold entryQ
  sl_unfold_run_names
  sl_unfold_run_names
  fin_cases n <;>
    (simp (disch := decide) only [queries, ↓ readAt_skip, ↓ readAt_hit_of]
     rfl)

set_option maxHeartbeats 40000000 in
/-- A chain of sub-block 0: its diagonal block, then 0 blocks below it. -/
theorem entry0 (n : Fin 8) (hn : n.val / 2 = 0) :
    entry i M3 M4 M5 M6 M8 M9 M10 M11 M12 f3 f4 f5 f6 f9 n =
      (Chain.first (queries M8 (entryQ M3 M8 f3) n) (triangle M6 f6)
        (rowsAt M4 f4 (k0_off2 i) (k0_off2_inb i))
        (scoresOf (queries M8 (entryQ M3 M8 f3) n) (rowsAt M4 f4 (k0_off1 i 3#32) (k0_off1_inb i 3)))) := by
  unfold entry entryQ
  sl_unfold_run_names
  sl_unfold_run_names
  sl_unfold_run_names
  fin_cases n <;> first | (exfalso; revert hn; decide) | skip
  all_goals
    apply Chain.ext <;>
    (simp (disch := decide) only [slabs, queries, Chain.next, Chain.first, ↓ concatenate_eq, ↓ readAt_skip, ↓ readAt_hit_of, ↓ View.readCov_skip,
        ↓ View.readCov_cons_toLoadRect, ↓ View.readCov_fill, ↓ readAt_fill]
     rfl)

set_option maxHeartbeats 40000000 in
/-- A chain of sub-block 1: its diagonal block, then 1 blocks below it. -/
theorem entry1 (n : Fin 8) (hn : n.val / 2 = 1) :
    entry i M3 M4 M5 M6 M8 M9 M10 M11 M12 f3 f4 f5 f6 f9 n =
      (Chain.next (queries M8 (entryQ M3 M8 f3) n) (triangle M6 f6)
        (rowsAt M4 f4 (k0_off2 i) (k0_off2_inb i)) (rowsAt M5 f5 (k0_off1 i 2#32) (k0_off1_inb i 2))
        (Chain.first (queries M8 (entryQ M3 M8 f3) n) (triangle M6 f6)
          (rowsAt M4 f4 (k0_off1 i 3#32) (k0_off1_inb i 3))
          (scoresOf (queries M8 (entryQ M3 M8 f3) n) (rowsAt M4 f4 (k0_off1 i 2#32) (k0_off1_inb i 2))))) := by
  unfold entry entryQ
  sl_unfold_run_names
  sl_unfold_run_names
  sl_unfold_run_names
  fin_cases n <;> first | (exfalso; revert hn; decide) | skip
  all_goals
    apply Chain.ext <;>
    (simp (disch := decide) only [slabs, queries, Chain.next, Chain.first, ↓ concatenate_eq, ↓ readAt_skip, ↓ readAt_hit_of, ↓ View.readCov_skip,
        ↓ View.readCov_cons_toLoadRect, ↓ View.readCov_fill, ↓ readAt_fill]
     rfl)

set_option maxHeartbeats 40000000 in
/-- A chain of sub-block 2: its diagonal block, then 2 blocks below it. -/
theorem entry2 (n : Fin 8) (hn : n.val / 2 = 2) :
    entry i M3 M4 M5 M6 M8 M9 M10 M11 M12 f3 f4 f5 f6 f9 n =
      (Chain.next (queries M8 (entryQ M3 M8 f3) n) (triangle M6 f6)
        (rowsAt M4 f4 (k0_off2 i) (k0_off2_inb i)) (rowsAt M5 f5 (k0_off1 i 2#32) (k0_off1_inb i 2))
        (Chain.next (queries M8 (entryQ M3 M8 f3) n) (triangle M6 f6)
          (rowsAt M4 f4 (k0_off1 i 3#32) (k0_off1_inb i 3)) (rowsAt M5 f5 (k0_off1 i 1#32) (k0_off1_inb i 1))
          (Chain.first (queries M8 (entryQ M3 M8 f3) n) (triangle M6 f6)
            (rowsAt M4 f4 (k0_off1 i 2#32) (k0_off1_inb i 2))
            (scoresOf (queries M8 (entryQ M3 M8 f3) n) (rowsAt M4 f4 (k0_off1 i 1#32) (k0_off1_inb i 1)))))) := by
  unfold entry entryQ
  sl_unfold_run_names
  sl_unfold_run_names
  sl_unfold_run_names
  fin_cases n <;> first | (exfalso; revert hn; decide) | skip
  all_goals
    apply Chain.ext <;>
    (simp (disch := decide) only [slabs, queries, Chain.next, Chain.first, ↓ concatenate_eq, ↓ readAt_skip, ↓ readAt_hit_of, ↓ View.readCov_skip,
        ↓ View.readCov_cons_toLoadRect, ↓ View.readCov_fill, ↓ readAt_fill]
     rfl)

set_option maxHeartbeats 40000000 in
/-- A chain of sub-block 3: its diagonal block, then 3 blocks below it. -/
theorem entry3 (n : Fin 8) (hn : n.val / 2 = 3) :
    entry i M3 M4 M5 M6 M8 M9 M10 M11 M12 f3 f4 f5 f6 f9 n =
      (Chain.next (queries M8 (entryQ M3 M8 f3) n) (triangle M6 f6)
        (rowsAt M4 f4 (k0_off2 i) (k0_off2_inb i)) (rowsAt M5 f5 (k0_off1 i 2#32) (k0_off1_inb i 2))
        (Chain.next (queries M8 (entryQ M3 M8 f3) n) (triangle M6 f6)
          (rowsAt M4 f4 (k0_off1 i 3#32) (k0_off1_inb i 3)) (rowsAt M5 f5 (k0_off1 i 1#32) (k0_off1_inb i 1))
          (Chain.next (queries M8 (entryQ M3 M8 f3) n) (triangle M6 f6)
            (rowsAt M4 f4 (k0_off1 i 2#32) (k0_off1_inb i 2)) (rowsAt M5 f5 (k0_off1 i 0#32) (k0_off1_inb i 0))
            (Chain.first (queries M8 (entryQ M3 M8 f3) n) (triangle M6 f6)
              (rowsAt M4 f4 (k0_off1 i 1#32) (k0_off1_inb i 1))
              (scoresOf (queries M8 (entryQ M3 M8 f3) n) (rowsAt M4 f4 (k0_off1 i 0#32) (k0_off1_inb i 0))))))) := by
  unfold entry entryQ
  sl_unfold_run_names
  sl_unfold_run_names
  sl_unfold_run_names
  fin_cases n <;> first | (exfalso; revert hn; decide) | skip
  all_goals
    apply Chain.ext <;>
    (simp (disch := decide) only [slabs, queries, Chain.next, Chain.first, ↓ concatenate_eq, ↓ readAt_skip, ↓ readAt_hit_of, ↓ View.readCov_skip,
        ↓ View.readCov_cons_toLoadRect, ↓ View.readCov_fill, ↓ readAt_fill]
     rfl)

end

end Cert.Proof.Ideal

end
-- ==== Proof.Trip.lean ====
/- What one trip of the kernel's loop does to each chain. -/
module

public import proofs.«01_k».proof.Proof.Slabs

@[expose] public section

set_option maxRecDepth 65536

noncomputable section

namespace Cert.Proof.Ideal

open Cert.KernelIdeal Cert.KernelIdeal.Gen
open Idealize.ShloMosaic Idealize.ShloMosaic.TcCoe Idealize.ShloMosaic.Tactic

variable {F : FTy → Type} [FloatOps F] [Named F]

set_option maxHeartbeats 40000000 in
/-- One trip takes every chain over two blocks. -/
theorem trip_slabs (c : Dev nD) (i : grid0.Coords)
    (M3 : Memref sig .tc .vmem S1x1024x128 .bf16) (h3 : M3.IsWhole) (M4 : Memref sig .tc .vmem S1x8192x128 .bf16) (h4 : M4.IsWhole)
    (M5 : Memref sig .tc .vmem S1x8192x128 .bf16) (h5 : M5.IsWhole) (M6 : Memref sig .tc .vmem S512x256 .bf16) (h6 : M6.IsWhole)
    (M7 : Memref sig .tc .vmem S1x1024x128 .f32) (h7 : M7.IsWhole) (M8 : Memref sig .tc .vmem S8x256x128 .bf16) (h8 : M8.IsWhole)
    (M9 : Memref sig .tc .vmem S48x256x256 .f32) (h9 : M9.IsWhole) (M10 : Memref sig .tc .vmem S8x256x256 .bf16) (h10 : M10.IsWhole)
    (M11 : Memref sig .tc .vmem S8x256x128 .f32) (h11 : M11.IsWhole) (M12 : Memref sig .tc .vmem S8x256x128 .f32) (h12 : M12.IsWhole)
    (w59 w1282 w2 w1283 w1288 : BitVec 32)
    (f4 : Bf (F := F) M4) (f5 : Bf (F := F) M5) (f6 : Bf (F := F) M6) (f8 : Bf (F := F) M8) (k : Fin (k0_t1_loop i).trips)
    (f9 : Bf (F := F) M9) (f10 : Bf (F := F) M10) (f11 : Bf (F := F) M11) (f12 : Bf (F := F) M12) (n : Fin 8) :
    slabs M9 M10 M11 M12
      (M9.view.writes (Elt F) f9 (tripL_k0_t1 (F := F) Variants.none c none i M3 h3 M4 h4 M5 h5 M6 h6 M7 h7 M8 h8 M9 h9 M10 h10 M11 h11 M12 h12 w59 w1282 w2 w1283 w1288 f4 f5 f6 f8 k f9 f10 f11 f12).1)
      (M10.view.writes (Elt F) f10 (tripL_k0_t1 (F := F) Variants.none c none i M3 h3 M4 h4 M5 h5 M6 h6 M7 h7 M8 h8 M9 h9 M10 h10 M11 h11 M12 h12 w59 w1282 w2 w1283 w1288 f4 f5 f6 f8 k f9 f10 f11 f12).2.1)
      (M11.view.writes (Elt F) f11 (tripL_k0_t1 (F := F) Variants.none c none i M3 h3 M4 h4 M5 h5 M6 h6 M7 h7 M8 h8 M9 h9 M10 h10 M11 h11 M12 h12 w59 w1282 w2 w1283 w1288 f4 f5 f6 f8 k f9 f10 f11 f12).2.2.1)
      (M12.view.writes (Elt F) f12 (tripL_k0_t1 (F := F) Variants.none c none i M3 h3 M4 h4 M5 h5 M6 h6 M7 h7 M8 h8 M9 h9 M10 h10 M11 h11 M12 h12 w59 w1282 w2 w1283 w1288 f4 f5 f6 f8 k f9 f10 f11 f12).2.2.2) n
    = Chain.next (queries M8 f8 n) (triangle M6 f6) (rowsAt M4 f4 (k0_off4 i k 1#32) (k0_off4_inb i k 1)) (rowsAt M5 f5 (k0_off3 i k 1#32) (k0_off3_inb i k 1))
        (Chain.next (queries M8 f8 n) (triangle M6 f6) (rowsAt M4 f4 (k0_off4 i k 0#32) (k0_off4_inb i k 0)) (rowsAt M5 f5 (k0_off3 i k 0#32) (k0_off3_inb i k 0))
          (slabs M9 M10 M11 M12 f9 f10 f11 f12 n)) := by
  unfold tripL_k0_t1 trip_k0_t1
  sl_unfold_run_names
  sl_unfold_run_names
  fin_cases n <;> apply Chain.ext <;>
    (simp (disch := decide) only [slabs, Chain.next, ↓ readAt_skip, ↓ readAt_hit_of, ↓ View.readCov_skip, ↓ View.readCov_cons_toLoadRect]
     rfl)

end Cert.Proof.Ideal

end
-- ==== Proof.Loop.lean ====
/- The kernel's loop: a chain's slabs after any number of trips are a recursion over its blocks of keys and values. -/
module

public import proofs.«01_k».proof.Proof.Entry
public import proofs.«01_k».proof.Proof.Trip

@[expose] public section

set_option maxRecDepth 65536

noncomputable section

namespace Cert.Proof.Ideal

open Cert.KernelIdeal Cert.KernelIdeal.Gen
open Idealize.ShloMosaic Idealize.ShloMosaic.TcCoe Idealize.ShloMosaic.Tactic

variable {F : FTy → Type} [FloatOps F] [Named F]

theorem blk_inb (n : ℕ) : ∀ a, (![0, 256 * (n % 32), 0] : Fin 3 → ℕ) a + S1x256x128.size a ≤ S1x8192x128.size a := by
  have h : n % 32 < 32 := Nat.mod_lt _ (by decide)
  intro a
  fin_cases a
  · show 0 + 1 ≤ 1
    omega
  · show 256 * (n % 32) + 256 ≤ 8192
    omega
  · show 0 + 128 ≤ 128
    omega

/-- Block `n` of 256 rows of the keys or the values. -/
def blk (x : Vec F S1x8192x128 .bf16) (n : ℕ) : Vec F S1x256x128 .bf16 :=
  View.ld x (Rect.unit (s := S1x8192x128) ![0, 256 * (n % 32), 0] S1x256x128.size (blk_inb n))

/-- Rows loaded at a block's offset are the block. -/
theorem rowsAt_eq (M : Memref sig .tc .vmem S1x8192x128 .bf16) (f : Bf (F := F) M) (off : Fin 3 → ℕ)
    (inb : ∀ a, off a + S1x256x128.size a ≤ S1x8192x128.size a) (n : ℕ) (h : off = ![0, 256 * (n % 32), 0]) :
    rowsAt M f off inb = blk (M.view.read (Elt F) f) n := by
  subst h; rfl

/-- A chain after `j` of the blocks below its diagonal one, of keys `K` and values `V`; its diagonal block is block `N`. -/
def chainAt (qh : Vec F S1x256x128 .bf16) (tri : Vec F S512x256 .bf16) (K V : ℕ → Vec F S1x256x128 .bf16) (N : ℕ) : ℕ → Chain F
  | 0 => Chain.first qh tri (K (N - 1)) (scoresOf qh (K N))
  | j + 1 => Chain.next qh tri (K (N - 2 - j)) (V (N - j)) (chainAt qh tri K V N j)

/-- The block of queries the grid is at. -/
abbrev qAt (i : grid0.Coords) : ℕ := (i 2).val

theorem qAt_lt (i : grid0.Coords) : qAt i < 8 := (i 2).isLt

theorem off1_eq (i : grid0.Coords) (r : Fin 4) : k0_off1 i (BitVec.ofNat 32 r.val) = ![0, 256 * ((4 * qAt i + 3 - r.val) % 32), 0] := by
  have h := qAt_lt i
  unfold k0_off1
  unfold qAt at *
  generalize (i 2).val = q at *
  interval_cases q <;> fin_cases r <;> decide

theorem off2_eq (i : grid0.Coords) : k0_off2 i = ![0, 256 * ((4 * qAt i - 1) % 32), 0] := by
  have h := qAt_lt i
  unfold k0_off2
  unfold qAt at *
  generalize (i 2).val = q at *
  interval_cases q <;> decide

theorem trips_eq (i : grid0.Coords) : (k0_t1_loop i).trips = 2 * qAt i := by
  have h := qAt_lt i
  unfold k0_t1_loop
  unfold qAt at *
  generalize (i 2).val = q at *
  interval_cases q <;> decide

theorem off3_eq (i : grid0.Coords) (k : Fin (k0_t1_loop i).trips) (r : Fin 2) :
    k0_off3 i k (BitVec.ofNat 32 r.val) = ![0, 256 * ((4 * qAt i - (2 * k.val + r.val)) % 32), 0] := by
  have h := qAt_lt i
  have hk : k.val < 2 * qAt i := lt_of_lt_of_eq k.isLt (trips_eq i)
  unfold k0_off3
  unfold qAt at *
  generalize k.val = kk at *
  generalize (i 2).val = q at *
  interval_cases q <;> interval_cases kk <;> fin_cases r <;> decide

theorem off4_eq (i : grid0.Coords) (k : Fin (k0_t1_loop i).trips) (r : Fin 2) :
    k0_off4 i k (BitVec.ofNat 32 r.val) = ![0, 256 * ((4 * qAt i - 2 - (2 * k.val + r.val)) % 32), 0] := by
  have h := qAt_lt i
  have hk : k.val < 2 * qAt i := lt_of_lt_of_eq k.isLt (trips_eq i)
  unfold k0_off4
  unfold qAt at *
  generalize k.val = kk at *
  generalize (i 2).val = q at *
  interval_cases q <;> interval_cases kk <;> fin_cases r <;> decide

section
variable (c : Dev nD) (i : grid0.Coords)
    (M3 : Memref sig .tc .vmem S1x1024x128 .bf16) (h3 : M3.IsWhole) (M4 : Memref sig .tc .vmem S1x8192x128 .bf16) (h4 : M4.IsWhole)
    (M5 : Memref sig .tc .vmem S1x8192x128 .bf16) (h5 : M5.IsWhole) (M6 : Memref sig .tc .vmem S512x256 .bf16) (h6 : M6.IsWhole)
    (M7 : Memref sig .tc .vmem S1x1024x128 .f32) (h7 : M7.IsWhole) (M8 : Memref sig .tc .vmem S8x256x128 .bf16) (h8 : M8.IsWhole)
    (M9 : Memref sig .tc .vmem S48x256x256 .f32) (h9 : M9.IsWhole) (M10 : Memref sig .tc .vmem S8x256x256 .bf16) (h10 : M10.IsWhole)
    (M11 : Memref sig .tc .vmem S8x256x128 .f32) (h11 : M11.IsWhole) (M12 : Memref sig .tc .vmem S8x256x128 .f32) (h12 : M12.IsWhole)

/-- The keys' blocks, read off their buffer. -/
abbrev blocks (M : Memref sig .tc .vmem S1x8192x128 .bf16) (f : Bf (F := F) M) : ℕ → Vec F S1x256x128 .bf16 := blk (M.view.read (Elt F) f)

/-- A chain's slabs after `k` trips. -/
theorem loop_slabs (w59 w1282 w2 w1283 w1288 : BitVec 32)
    (f4 : Bf (F := F) M4) (f5 : Bf (F := F) M5) (f6 : Bf (F := F) M6) (f8 : Bf (F := F) M8)
    (G9 : Bf (F := F) M9) (G10 : Bf (F := F) M10) (G11 : Bf (F := F) M11) (G12 : Bf (F := F) M12) (n : Fin 8) (s : ℕ)
    (h0 : slabs M9 M10 M11 M12 G9 G10 G11 G12 n
      = chainAt (queries M8 f8 n) (triangle M6 f6) (blocks M4 f4) (blocks M5 f5) (4 * qAt i + s) s) (k : ℕ) (hk : k ≤ 2 * qAt i) :
    slabs M9 M10 M11 M12
      (M9.view.writes (Elt F) G9 (pb_k0_t1 (F := F) Variants.none c none i M3 h3 M4 h4 M5 h5 M6 h6 M7 h7 M8 h8 M9 h9 M10 h10 M11 h11 M12 h12 w59 w1282 w2 w1283 w1288 f4 f5 f6 f8 G9 G10 G11 G12 k).1)
      (M10.view.writes (Elt F) G10 (pb_k0_t1 (F := F) Variants.none c none i M3 h3 M4 h4 M5 h5 M6 h6 M7 h7 M8 h8 M9 h9 M10 h10 M11 h11 M12 h12 w59 w1282 w2 w1283 w1288 f4 f5 f6 f8 G9 G10 G11 G12 k).2.1)
      (M11.view.writes (Elt F) G11 (pb_k0_t1 (F := F) Variants.none c none i M3 h3 M4 h4 M5 h5 M6 h6 M7 h7 M8 h8 M9 h9 M10 h10 M11 h11 M12 h12 w59 w1282 w2 w1283 w1288 f4 f5 f6 f8 G9 G10 G11 G12 k).2.2.1)
      (M12.view.writes (Elt F) G12 (pb_k0_t1 (F := F) Variants.none c none i M3 h3 M4 h4 M5 h5 M6 h6 M7 h7 M8 h8 M9 h9 M10 h10 M11 h11 M12 h12 w59 w1282 w2 w1283 w1288 f4 f5 f6 f8 G9 G10 G11 G12 k).2.2.2) n
      = chainAt (queries M8 f8 n) (triangle M6 f6) (blocks M4 f4) (blocks M5 f5) (4 * qAt i + s) (s + 2 * k) := by
  induction k with
  | zero => exact h0
  | succ k ih =>
    have hk' : k < (k0_t1_loop i).trips := by rw [trips_eq]; omega
    have e := pb_k0_t1_succ (F := F) Variants.none c none i M3 h3 M4 h4 M5 h5 M6 h6 M7 h7 M8 h8 M9 h9 M10 h10 M11 h11 M12 h12 w59 w1282 w2 w1283 w1288 f4 f5 f6 f8 G9 G10 G11 G12 ⟨k, hk'⟩
    have e' : pb_k0_t1 (F := F) Variants.none c none i M3 h3 M4 h4 M5 h5 M6 h6 M7 h7 M8 h8 M9 h9 M10 h10 M11 h11 M12 h12 w59 w1282 w2 w1283 w1288 f4 f5 f6 f8 G9 G10 G11 G12 (k + 1) = _ := e
    rw [e']
    dsimp only
    rw [View.writes_append, View.writes_append, View.writes_append, View.writes_append]
    have a1 := rowsAt_eq (F := F) M4 f4 (k0_off4 i ⟨k, hk'⟩ 1#32) (k0_off4_inb i ⟨k, hk'⟩ 1) _ (off4_eq i ⟨k, hk'⟩ 1)
    have b1 := rowsAt_eq (F := F) M5 f5 (k0_off3 i ⟨k, hk'⟩ 1#32) (k0_off3_inb i ⟨k, hk'⟩ 1) _ (off3_eq i ⟨k, hk'⟩ 1)
    have a0 := rowsAt_eq (F := F) M4 f4 (k0_off4 i ⟨k, hk'⟩ 0#32) (k0_off4_inb i ⟨k, hk'⟩ 0) _ (off4_eq i ⟨k, hk'⟩ 0)
    have b0 := rowsAt_eq (F := F) M5 f5 (k0_off3 i ⟨k, hk'⟩ 0#32) (k0_off3_inb i ⟨k, hk'⟩ 0) _ (off3_eq i ⟨k, hk'⟩ 0)
    rw [trip_slabs, ih (by omega), a1, b1, a0, b0]
    rw [show s + 2 * (k + 1) = (s + 2 * k) + 1 + 1 from by omega]
    simp only [chainAt]
    rw [show 4 * qAt i - 2 - (2 * k + ((1 : Fin 2) : ℕ)) = 4 * qAt i + s - 2 - (s + 2 * k + 1) from by
        have : ((1 : Fin 2) : ℕ) = 1 := rfl
        omega,
      show 4 * qAt i - (2 * k + ((1 : Fin 2) : ℕ)) = 4 * qAt i + s - (s + 2 * k + 1) from by
        have : ((1 : Fin 2) : ℕ) = 1 := rfl
        omega,
      show 4 * qAt i - 2 - (2 * k + ((0 : Fin 2) : ℕ)) = 4 * qAt i + s - 2 - (s + 2 * k) from by
        have : ((0 : Fin 2) : ℕ) = 0 := rfl
        omega,
      show 4 * qAt i - (2 * k + ((0 : Fin 2) : ℕ)) = 4 * qAt i + s - (s + 2 * k) from by
        have : ((0 : Fin 2) : ℕ) = 0 := rfl
        omega]

variable (f3 : Bf (F := F) M3) (f4 : Bf (F := F) M4) (f5 : Bf (F := F) M5) (f6 : Bf (F := F) M6) (f9 : Bf (F := F) M9)

/-- A chain's slabs when the loop begins. -/
theorem entry_eq (n : Fin 8) :
    entry i M3 M4 M5 M6 M8 M9 M10 M11 M12 f3 f4 f5 f6 f9 n
      = chainAt (queries M8 (entryQ M3 M8 f3) n) (triangle M6 f6) (blocks M4 f4) (blocks M5 f5) (4 * qAt i + n.val / 2) (n.val / 2) := by
  have e2 := rowsAt_eq M4 f4 _ (k0_off2_inb i) _ (off2_eq i)
  have e10 := rowsAt_eq M4 f4 _ (k0_off1_inb i 0) _ (off1_eq i 0)
  have e11 := rowsAt_eq M4 f4 _ (k0_off1_inb i 1) _ (off1_eq i 1)
  have e12 := rowsAt_eq M4 f4 _ (k0_off1_inb i 2) _ (off1_eq i 2)
  have e13 := rowsAt_eq M4 f4 _ (k0_off1_inb i 3) _ (off1_eq i 3)
  have v10 := rowsAt_eq M5 f5 _ (k0_off1_inb i 0) _ (off1_eq i 0)
  have v11 := rowsAt_eq M5 f5 _ (k0_off1_inb i 1) _ (off1_eq i 1)
  have v12 := rowsAt_eq M5 f5 _ (k0_off1_inb i 2) _ (off1_eq i 2)
  have hn : n.val / 2 = 0 ∨ n.val / 2 = 1 ∨ n.val / 2 = 2 ∨ n.val / 2 = 3 := by omega
  rcases hn with h | h | h | h
  · rw [entry0 _ _ _ _ _ _ _ _ _ _ _ _ _ _ _ n h, h]
    simp only [chainAt]
    exact congrArg₂ _ e2 (congrArg _ e13)
  · rw [entry1 _ _ _ _ _ _ _ _ _ _ _ _ _ _ _ n h, h]
    simp only [chainAt]
    have a : 4 * qAt i + 1 - 2 - 0 = 4 * qAt i - 1 := by omega
    rw [a]
    refine congr (congrArg₂ _ e2 v12) (congrArg₂ _ e13 (congrArg _ e12))
  · rw [entry2 _ _ _ _ _ _ _ _ _ _ _ _ _ _ _ n h, h]
    simp only [chainAt]
    have a : 4 * qAt i + 2 - 2 - 1 = 4 * qAt i - 1 := by omega
    rw [a]
    refine congr (congrArg₂ _ e2 v12) (congr (congrArg₂ _ e13 v11) (congrArg₂ _ e12 (congrArg _ e11)))
  · rw [entry3 _ _ _ _ _ _ _ _ _ _ _ _ _ _ _ n h, h]
    simp only [chainAt]
    have a : 4 * qAt i + 3 - 2 - 2 = 4 * qAt i - 1 := by omega
    rw [a]
    refine congr (congrArg₂ _ e2 v12) (congr (congrArg₂ _ e13 v11) (congr (congrArg₂ _ e12 v10) (congrArg₂ _ e11 (congrArg _ e10))))

end

end Cert.Proof.Ideal

end
-- ==== Proof.Out.lean ====
/- What the body stores into its output block, by the chains' slabs when the kernel's loop ends. -/
module

public import proofs.«01_k».proof.Proof.Loop

@[expose] public section

set_option maxRecDepth 65536

noncomputable section

namespace Cert.Proof.Ideal

open Cert.KernelIdeal Cert.KernelIdeal.Gen
open Idealize.ShloMosaic Idealize.ShloMosaic.TcCoe Idealize.ShloMosaic.Tactic

variable {F : FTy → Type} [FloatOps F] [Named F]

/-- A block of 256 rows of the output: the first head's chain at its lanes, the second head's at the others. -/
def tilePiece (A B : Vec F S1x256x128 .f32) : Vec F S1x256x128 .f32 :=
  shapeCast S1x256x128
    (select headOf (shapeCast S256x128 A shapeCasts_S1x256x128_S256x128 : FVec F S256x128 .f32) (shapeCast S256x128 B shapeCasts_S1x256x128_S256x128))
    shapeCasts_S256x128_S1x256x128

section
variable (c : Dev nD) (i : grid0.Coords)
    (M3 : Memref sig .tc .vmem S1x1024x128 .bf16) (h3 : M3.IsWhole) (M4 : Memref sig .tc .vmem S1x8192x128 .bf16) (h4 : M4.IsWhole)
    (M5 : Memref sig .tc .vmem S1x8192x128 .bf16) (h5 : M5.IsWhole) (M6 : Memref sig .tc .vmem S512x256 .bf16) (h6 : M6.IsWhole)
    (M7 : Memref sig .tc .vmem S1x1024x128 .f32) (h7 : M7.IsWhole) (M8 : Memref sig .tc .vmem S8x256x128 .bf16) (h8 : M8.IsWhole)
    (M9 : Memref sig .tc .vmem S48x256x256 .f32) (h9 : M9.IsWhole) (M10 : Memref sig .tc .vmem S8x256x256 .bf16) (h10 : M10.IsWhole)
    (M11 : Memref sig .tc .vmem S8x256x128 .f32) (h11 : M11.IsWhole) (M12 : Memref sig .tc .vmem S8x256x128 .f32) (h12 : M12.IsWhole)
    (f3 : Bf (F := F) M3) (f4 : Bf (F := F) M4) (f5 : Bf (F := F) M5) (f6 : Bf (F := F) M6) (f9 : Bf (F := F) M9)

/-- What the loop stores into scratch. -/
abbrev loopP :=
  pb_k0_t1 (F := F) Variants.none c none i M3 h3 M4 h4 M5 h5 M6 h6 M7 h7 M8 h8 M9 h9 M10 h10 M11 h11 M12 h12
    (bodyRun.sl.v59 i) (bodyRun.sl.v55 i) 2#32 (bodyRun.sl.v1283 i) (bodyRun.sl.v1288 i) f4 f5 f6 (entryQ M3 M8 f3)
    (M9.view.writes (Elt F) f9 (bodyRun.sl.H9_28 i M3 M4 M8 f3 f4))
    (M10.view.writes (Elt F) M10.view.junk (bodyRun.sl.H10_20 i M3 M4 M6 M8 M9 M12 f3 f4 f6))
    (M11.view.writes (Elt F) M11.view.junk (bodyRun.sl.H11_13 i M3 M4 M5 M6 M8 M9 M10 M11 M12 f3 f4 f5 f6))
    (M12.view.writes (Elt F) M12.view.junk (bodyRun.sl.H12_21 i M3 M4 M6 M8 M9 M12 f3 f4 f6))
    (Scf.trips (k0_t1_loop i).lb (k0_t1_loop i).ub (k0_t1_loop i).st)

/-- A chain's running sum when its last weights have met the first block of values. -/
abbrev lastAcc (n : Fin 8) : Vec F S1x256x128 .f32 :=
  accOf
    (M11.view.readAt (Elt F) (Rect.unit (s := S8x256x128) ![n.val, 0, 0] S1x256x128.size (by fin_cases n <;> decide)).toLoadRect
      (M11.view.writes (Elt F) M11.view.junk ((loopP c i M3 h3 M4 h4 M5 h5 M6 h6 M7 h7 M8 h8 M9 h9 M10 h10 M11 h11 M12 h12 f3 f4 f5 f6 f9).2.2.1 ++ bodyRun.sl.H11_13 i M3 M4 M5 M6 M8 M9 M10 M11 M12 f3 f4 f5 f6)))
    (M10.view.readAt (Elt F) (Rect.unit (s := S8x256x256) ![n.val, 0, 0] S1x256x256.size (by fin_cases n <;> decide)).toLoadRect
      (M10.view.writes (Elt F) M10.view.junk ((loopP c i M3 h3 M4 h4 M5 h5 M6 h6 M7 h7 M8 h8 M9 h9 M10 h10 M11 h11 M12 h12 f3 f4 f5 f6 f9).2.1 ++ bodyRun.sl.H10_20 i M3 M4 M6 M8 M9 M12 f3 f4 f6)))
    (rowsAt M5 f5 ![0, 0, 0] (by decide))

/-- The loop's second part has no trip. -/
theorem trips2 : Scf.trips (k0_t2_loop i).lb (k0_t2_loop i).ub (k0_t2_loop i).st = 0 := by
  have h := qAt_lt i
  unfold k0_t2_loop
  unfold qAt at *
  generalize (i 2).val = q at *
  interval_cases q <;> decide

theorem readCov_eq_readAt {sig : RefSig} {κ : Kind} {sp : Space} {s : Shape} {e : EltTy} {Val : EltTy → Type} [∀ e, Nonempty (Val e)]
    (v : View sig κ sp s e) (L : List (View.Piece Val s e)) (B : LoadRect s) : v.readCov L B = v.readAt Val B (v.writes Val v.junk L) := rfl

set_option maxHeartbeats 40000000 in
/-- The pieces the body stores. -/
theorem pieces_eq (f8 : Bf (F := F) M8) (f10 : Bf (F := F) M10) (f11 : Bf (F := F) M11) (f12 : Bf (F := F) M12) :
    (bodyRun c i M3 h3 M4 h4 M5 h5 M6 h6 M7 h7 M8 h8 M9 h9 M10 h10 M11 h11 M12 h12 f3 f4 f5 f6).1 f8 f9 f10 f11 f12 =
      [⟨Rect.unit (s := S1x1024x128) ![0, 768, 0] S1x256x128.size (by decide),
          tilePiece (lastAcc c i M3 h3 M4 h4 M5 h5 M6 h6 M7 h7 M8 h8 M9 h9 M10 h10 M11 h11 M12 h12 f3 f4 f5 f6 f9 6) (lastAcc c i M3 h3 M4 h4 M5 h5 M6 h6 M7 h7 M8 h8 M9 h9 M10 h10 M11 h11 M12 h12 f3 f4 f5 f6 f9 7)⟩,
       ⟨Rect.unit (s := S1x1024x128) ![0, 512, 0] S1x256x128.size (by decide),
          tilePiece (lastAcc c i M3 h3 M4 h4 M5 h5 M6 h6 M7 h7 M8 h8 M9 h9 M10 h10 M11 h11 M12 h12 f3 f4 f5 f6 f9 4) (lastAcc c i M3 h3 M4 h4 M5 h5 M6 h6 M7 h7 M8 h8 M9 h9 M10 h10 M11 h11 M12 h12 f3 f4 f5 f6 f9 5)⟩,
       ⟨Rect.unit (s := S1x1024x128) ![0, 256, 0] S1x256x128.size (by decide),
          tilePiece (lastAcc c i M3 h3 M4 h4 M5 h5 M6 h6 M7 h7 M8 h8 M9 h9 M10 h10 M11 h11 M12 h12 f3 f4 f5 f6 f9 2) (lastAcc c i M3 h3 M4 h4 M5 h5 M6 h6 M7 h7 M8 h8 M9 h9 M10 h10 M11 h11 M12 h12 f3 f4 f5 f6 f9 3)⟩,
       ⟨Rect.unit (s := S1x1024x128) ![0, 0, 0] S1x256x128.size (by decide),
          tilePiece (lastAcc c i M3 h3 M4 h4 M5 h5 M6 h6 M7 h7 M8 h8 M9 h9 M10 h10 M11 h11 M12 h12 f3 f4 f5 f6 f9 0) (lastAcc c i M3 h3 M4 h4 M5 h5 M6 h6 M7 h7 M8 h8 M9 h9 M10 h10 M11 h11 M12 h12 f3 f4 f5 f6 f9 1)⟩] := by
  delta bodyRun
  dsimp only
  iterate 30
    try
      delta bodyRun.sl.H11_1 bodyRun.sl.H11_2_1 bodyRun.sl.H11_3_1 bodyRun.sl.H11_4_1 bodyRun.sl.H11_5_1 bodyRun.sl.H11_6_1 bodyRun.sl.H11_7_1 bodyRun.sl.H11_8_1 bodyRun.sl.cst_887 bodyRun.sl.r_43 bodyRun.sl.r_44 bodyRun.sl.r_45 bodyRun.sl.r_46 bodyRun.sl.v0 bodyRun.sl.v1 bodyRun.sl.v1309 bodyRun.sl.v1311 bodyRun.sl.v1318 bodyRun.sl.v1320 bodyRun.sl.v1321 bodyRun.sl.v1322 bodyRun.sl.v1323 bodyRun.sl.v1324 bodyRun.sl.v1325 bodyRun.sl.v1326 bodyRun.sl.v1327 bodyRun.sl.v1328 bodyRun.sl.v1329 bodyRun.sl.v1330 bodyRun.sl.v1331 bodyRun.sl.v1332 bodyRun.sl.v1335 bodyRun.sl.v1336 bodyRun.sl.v1337 bodyRun.sl.v1338 bodyRun.sl.v1339 bodyRun.sl.v1340 bodyRun.sl.v1341 bodyRun.sl.v1344 bodyRun.sl.v1345 bodyRun.sl.v1346 bodyRun.sl.v1347 bodyRun.sl.v1348 bodyRun.sl.v1349 bodyRun.sl.v1350 bodyRun.sl.v1353 bodyRun.sl.v1354 bodyRun.sl.v1355 bodyRun.sl.v1356 bodyRun.sl.v1357 bodyRun.sl.v1358 bodyRun.sl.v1359 bodyRun.sl.v1362 bodyRun.sl.v1363 bodyRun.sl.v1364 bodyRun.sl.v1365 bodyRun.sl.v1366 bodyRun.sl.v1367 bodyRun.sl.v1368 bodyRun.sl.v1371 bodyRun.sl.v1372 bodyRun.sl.v1373 bodyRun.sl.v1374 bodyRun.sl.v1375 bodyRun.sl.v1376 bodyRun.sl.v1377 bodyRun.sl.v1380 bodyRun.sl.v1381 bodyRun.sl.v1382 bodyRun.sl.v1383 bodyRun.sl.v1384 bodyRun.sl.v1385 bodyRun.sl.v1387 bodyRun.sl.v1388 bodyRun.sl.v1389 bodyRun.sl.v1390 bodyRun.sl.v1391 bodyRun.sl.v1392 bodyRun.sl.v1393 bodyRun.sl.v1394 bodyRun.sl.v1395 bodyRun.sl.v1396 bodyRun.sl.v1397 bodyRun.sl.v1398 bodyRun.sl.v1399 bodyRun.sl.v1400 bodyRun.sl.v1405 bodyRun.sl.v1407
  rw [trips2]
  simp (disch := decide) only [pb_k0_t2, List.nil_append, ↓ View.readCov_skip, ↓ View.readCov_cons_toLoadRect, k0_pay1, k0_pay503, k0_pay504, k0_pay505,
    k0_pay519, k0_pay520, k0_pay521]
  rfl

end

end Cert.Proof.Ideal

end
-- ==== Proof.Tile.lean ====
/- The kernel's output block as a function of the tile's queries and of the keys and values. -/
module

public import proofs.«01_k».proof.Proof.Out
public import Idealize.ShloMosaic.Lib.WritesUnit
public import Idealize.ShloMosaic.Lib.ValueIdxCore

@[expose] public section

set_option maxRecDepth 65536

noncomputable section

namespace Cert.Proof.Ideal

open Cert.KernelIdeal Cert.KernelIdeal.Gen
open Idealize.ShloMosaic Idealize.ShloMosaic.TcCoe Idealize.ShloMosaic.Tactic Idealize.ShloMosaic.ValueIdx

variable {F : FTy → Type} [FloatOps F] [Named F]

/-- A chain's queries, of the tile's. -/
def chainQ (q : Vec F S1x1024x128 .bf16) (n : Fin 8) : Vec F S1x256x128 .bf16 :=
  queryOf n (View.ld q (Rect.unit (s := S1x1024x128) ![0, 256 * (n.val / 2), 0] S1x256x128.size (by fin_cases n <;> decide)))

/-- A chain's running sum at its end, in the tile of queries `qi`. -/
def accEnd (q : Vec F S1x1024x128 .bf16) (K V : Vec F S1x8192x128 .bf16) (tri : Vec F S512x256 .bf16) (qi : ℕ) (n : Fin 8) :
    Vec F S1x256x128 .f32 :=
  accOf (chainAt (chainQ q n) tri (blk K) (blk V) (4 * qi + n.val / 2) (4 * qi + n.val / 2)).a
    (chainAt (chainQ q n) tri (blk K) (blk V) (4 * qi + n.val / 2) (4 * qi + n.val / 2)).w (blk V 0)

/-- The tile: its sub-blocks of 256 rows one above the other. -/
def tile (q : Vec F S1x1024x128 .bf16) (K V : Vec F S1x8192x128 .bf16) (tri : Vec F S512x256 .bf16) (qi : ℕ) : Vec F S1x1024x128 .f32 :=
  fun y =>
    have h : (y 1).val < 1024 := (y 1).isLt
    tilePiece (accEnd q K V tri qi ⟨2 * ((y 1).val / 256), by omega⟩) (accEnd q K V tri qi ⟨2 * ((y 1).val / 256) + 1, by omega⟩)
      (ix3 0 ⟨(y 1).val % 256, Nat.mod_lt _ (by decide)⟩ (y 2))

section
variable (c : Dev nD) (i : grid0.Coords)
    (M3 : Memref sig .tc .vmem S1x1024x128 .bf16) (h3 : M3.IsWhole) (M4 : Memref sig .tc .vmem S1x8192x128 .bf16) (h4 : M4.IsWhole)
    (M5 : Memref sig .tc .vmem S1x8192x128 .bf16) (h5 : M5.IsWhole) (M6 : Memref sig .tc .vmem S512x256 .bf16) (h6 : M6.IsWhole)
    (M7 : Memref sig .tc .vmem S1x1024x128 .f32) (h7 : M7.IsWhole) (M8 : Memref sig .tc .vmem S8x256x128 .bf16) (h8 : M8.IsWhole)
    (M9 : Memref sig .tc .vmem S48x256x256 .f32) (h9 : M9.IsWhole) (M10 : Memref sig .tc .vmem S8x256x256 .bf16) (h10 : M10.IsWhole)
    (M11 : Memref sig .tc .vmem S8x256x128 .f32) (h11 : M11.IsWhole) (M12 : Memref sig .tc .vmem S8x256x128 .f32) (h12 : M12.IsWhole)
    (f3 : Bf (F := F) M3) (f4 : Bf (F := F) M4) (f5 : Bf (F := F) M5) (f6 : Bf (F := F) M6) (f9 : Bf (F := F) M9)

theorem lastAcc_eq (n : Fin 8) :
    lastAcc c i M3 h3 M4 h4 M5 h5 M6 h6 M7 h7 M8 h8 M9 h9 M10 h10 M11 h11 M12 h12 f3 f4 f5 f6 f9 n
      = accEnd (M3.view.read (Elt F) f3) (M4.view.read (Elt F) f4) (M5.view.read (Elt F) f5) (M6.view.read (Elt F) f6) (qAt i) n := by
  have e := loop_slabs c i M3 h3 M4 h4 M5 h5 M6 h6 M7 h7 M8 h8 M9 h9 M10 h10 M11 h11 M12 h12
    (bodyRun.sl.v59 i) (bodyRun.sl.v55 i) 2#32 (bodyRun.sl.v1283 i) (bodyRun.sl.v1288 i) f4 f5 f6 (entryQ M3 M8 f3)
    (M9.view.writes (Elt F) f9 (bodyRun.sl.H9_28 i M3 M4 M8 f3 f4))
    (M10.view.writes (Elt F) M10.view.junk (bodyRun.sl.H10_20 i M3 M4 M6 M8 M9 M12 f3 f4 f6))
    (M11.view.writes (Elt F) M11.view.junk (bodyRun.sl.H11_13 i M3 M4 M5 M6 M8 M9 M10 M11 M12 f3 f4 f5 f6))
    (M12.view.writes (Elt F) M12.view.junk (bodyRun.sl.H12_21 i M3 M4 M6 M8 M9 M12 f3 f4 f6)) n (n.val / 2)
    (entry_eq i M3 M4 M5 M6 M8 M9 M10 M11 M12 f3 f4 f5 f6 f9 n) (2 * qAt i) le_rfl
  have ht : Scf.trips (k0_t1_loop i).lb (k0_t1_loop i).ub (k0_t1_loop i).st = 2 * qAt i := trips_eq i
  rw [queries_entryQ, show n.val / 2 + 2 * (2 * qAt i) = 4 * qAt i + n.val / 2 from by omega,
    show triangle M6 f6 = M6.view.read (Elt F) f6 from View.readAt_full _ _ _] at e
  have ea := congrArg Chain.a e
  have ew := congrArg Chain.w e
  have hv := rowsAt_eq M5 f5 ![0, 0, 0] (by decide) 0 rfl
  unfold lastAcc loopP
  rw [ht, View.writes_append, View.writes_append, hv]
  exact congrArg₂ (fun a w => accOf a w _) ea ew

/-- The body leaves the tile in the output block. -/
theorem out_read (f7 : Bf (F := F) M7) (f8 : Bf (F := F) M8) (f10 : Bf (F := F) M10) (f11 : Bf (F := F) M11) (f12 : Bf (F := F) M12) :
    M7.view.read (Elt F) (M7.view.writes (Elt F) f7 ((bodyRun c i M3 h3 M4 h4 M5 h5 M6 h6 M7 h7 M8 h8 M9 h9 M10 h10 M11 h11 M12 h12 f3 f4 f5 f6).1 f8 f9 f10 f11 f12))
      = tile (M3.view.read (Elt F) f3) (M4.view.read (Elt F) f4) (M5.view.read (Elt F) f5) (M6.view.read (Elt F) f6) (qAt i) := by
  rw [pieces_eq]
  simp only [lastAcc_eq]
  funext y
  have h1 : (y 1).val < 1024 := (y 1).isLt
  have h0 : (y 0).val < 1 := (y 0).isLt
  have hs : (y 1).val / 256 = 3 ∨ (y 1).val / 256 = 2 ∨ (y 1).val / 256 = 1 ∨ (y 1).val / 256 = 0 := by omega
  have miss : ∀ (o : ℕ) (inb) (w : (Rect.unit (s := S1x1024x128) ![0, o, 0] S1x256x128.size inb).shape.Idx → Elt F .f32) (L),
      (y 1).val < o → M7.view.read (Elt F) (M7.view.writes (Elt F) f7 ((⟨Rect.unit ![0, o, 0] S1x256x128.size inb, w⟩ : View.Piece (Elt F) S1x1024x128 .f32) :: L)) y
        = M7.view.read (Elt F) (M7.view.writes (Elt F) f7 L) y :=
    fun o inb w L h => View.read_writes_cons_unit_of_not_mem _ _ inb w L y rfl 1 (Or.inl h)
  have hit : ∀ (o : ℕ) (inb) (w : (Rect.unit (s := S1x1024x128) ![0, o, 0] S1x256x128.size inb).shape.Idx → Elt F .f32) (L),
      (y 1).val = o + (y 1).val % 256 → M7.view.read (Elt F) (M7.view.writes (Elt F) f7 ((⟨Rect.unit ![0, o, 0] S1x256x128.size inb, w⟩ : View.Piece (Elt F) S1x1024x128 .f32) :: L)) y
        = w (ix3 (n0 := 1) (n1 := 256) (n2 := 128) 0 ⟨(y 1).val % 256, Nat.mod_lt _ (by decide)⟩ (y 2)) :=
    fun o inb w L h => View.read_writes_cons_unit_of_mem _ _ inb w L y (ix3 (n0 := 1) (n1 := 256) (n2 := 128) 0 ⟨(y 1).val % 256, Nat.mod_lt _ (by decide)⟩ (y 2)) rfl (by
      intro a
      fin_cases a
      · show (y 0).val = 0 + 0
        omega
      · exact h
      · show (y 2).val = 0 + (y 2).val
        omega)
  have fin : ∀ s (hs : (y 1).val / 256 = s) (a b : Fin 8), a.val = 2 * s → b.val = 2 * s + 1 →
      tilePiece (accEnd (M3.view.read (Elt F) f3) (M4.view.read (Elt F) f4) (M5.view.read (Elt F) f5) (M6.view.read (Elt F) f6) (qAt i) a) (accEnd (M3.view.read (Elt F) f3) (M4.view.read (Elt F) f4) (M5.view.read (Elt F) f5) (M6.view.read (Elt F) f6) (qAt i) b)
        (ix3 (n0 := 1) (n1 := 256) (n2 := 128) 0 ⟨(y 1).val % 256, Nat.mod_lt _ (by decide)⟩ (y 2)) = tile (M3.view.read (Elt F) f3) (M4.view.read (Elt F) f4) (M5.view.read (Elt F) f5) (M6.view.read (Elt F) f6) (qAt i) y := by
    intro s hs a b ha hb
    have e1 : a = ⟨2 * ((y 1).val / 256), by omega⟩ := Fin.ext (by show a.val = 2 * _; omega)
    have e2 : b = ⟨2 * ((y 1).val / 256) + 1, by omega⟩ := Fin.ext (by show b.val = 2 * _ + 1; omega)
    rw [e1, e2]
    rfl
  rcases hs with h | h | h | h
  · rw [hit _ _ _ _ (by omega)]
    exact fin 3 h 6 7 rfl rfl
  · rw [miss _ _ _ _ (by omega), hit _ _ _ _ (by omega)]
    exact fin 2 h 4 5 rfl rfl
  · rw [miss _ _ _ _ (by omega), miss _ _ _ _ (by omega), hit _ _ _ _ (by omega)]
    exact fin 1 h 2 3 rfl rfl
  · rw [miss _ _ _ _ (by omega), miss _ _ _ _ (by omega), miss _ _ _ _ (by omega), hit _ _ _ _ (by omega)]
    exact fin 0 h 0 1 rfl rfl

end

end Cert.Proof.Ideal

end
-- ==== Proof.Exact.lean ====
/- `KernelIdeal`'s run with its result: every run ends, the arguments as they were, the result array at its function of the arrays
   the grid reads. -/
module

public import proofs.«01_k».proof.Proof.IdealFrame
public import proofs.«01_k».proof.Proof.Tile
public import Idealize.ShloMosaic.Lib.Pipeline.ValueKit.Geometry

@[expose] public section

noncomputable section

namespace Cert.Proof.Exact

open Cert.KernelIdeal Cert.KernelIdeal.Gen Cert.Proof.Ideal
open Cert.Proof.IdealFrame (pt_whole owns_pt defs₀_row)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays as the region finds them; the inputs' buffers stay as they are, the output's holds the tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile (iblk m c 0 t) (iblk m c 1 t) (iblk m c 2 t) (iblk m c 3 t) (qAt (grid0.coords t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = tile (iblk m c 0 t) (iblk m c 1 t) (iblk m c 2 t) (iblk m c 3 t) (qAt (grid0.coords t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4,
    show (dats m 0 c).Φ t.castSucc = iprop(Pipeline.scopedRest spec0 c ∗ ∃ r, prngReg c r) from rfl, scopedRest0_eq]
  simp only [owns_pt, ← pt_whole]
  iintro ⟨⟨⟨⟨%g8, G8⟩, ⟨%g9, G9⟩, ⟨%g10, G10⟩, ⟨%g11, G11⟩, ⟨%g12, G12⟩⟩, Hr⟩, Ho, ⟨%d0, %f0, %hf0, H0⟩, ⟨%d1, %f1, %hf1, H1⟩,
    ⟨%d2, %f2, %hf2, H2⟩, ⟨%d3, %f3, %hf3, H3⟩, ⟨%d4, %f4, -, H4⟩⟩
  iapply ((bodyRun c (grid0.coords t) _ _ _ _ _ _ _ _ _ _ _ _ _ _ _ _ _ _ _ _ f0 f1 f2 f3).2 f4 g8 g9 g10 g11 g12 Set.univ _)
  isplitl [H0]; · iexact H0
  isplitl [H1]; · iexact H1
  isplitl [H2]; · iexact H2
  isplitl [H3]; · iexact H3
  isplitl [H4]; · iexact H4
  isplitl [G8]; · iexact G8
  isplitl [G9]; · iexact G9
  isplitl [G10]; · iexact G10
  isplitl [G11]; · iexact G11
  isplitl [G12]; · iexact G12
  iintro ⟨H0, H1, H2, H3, H4, G8, G9, G10, G11, G12⟩
  isplitl [G8 G9 G10 G11 G12 Hr]
  · isplitl [G8 G9 G10 G11 G12]
    · isplitl [G8]; · iexact G8
      isplitl [G9]; · iexact G9
      isplitl [G10]; · iexact G10
      isplitl [G11]; · iexact G11
      iexact G12
    iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr; swap; · iexact H4
  ipureintro
  rw [out_read, hf0, hf1, hf2, hf3]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at its end. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A tile of 1024 rows and 128 lanes of the queries. -/
def rowsTile (X : Vec F S8x8192x512 .bf16) (b : Fin 8) (qi : Fin 8) (h : Fin 4) : Vec F S1x1024x128 .bf16 := fun y =>
  X (ix3 b ⟨1024 * qi.val + (y 1).val, by have : (y 1).val < 1024 := (y 1).isLt; omega⟩
    ⟨128 * h.val + (y 2).val, by have : (y 2).val < 128 := (y 2).isLt; omega⟩)

/-- All rows of 128 lanes of the keys or the values. -/
def lanesOf (X : Vec F S8x8192x512 .bf16) (b : Fin 8) (h : Fin 4) : Vec F S1x8192x128 .bf16 := fun y =>
  X (ix3 b (y 1) ⟨128 * h.val + (y 2).val, by have : (y 2).val < 128 := (y 2).isLt; omega⟩)

/-- The result as a function of the arrays the grid reads. -/
def result (X0 X1 X2 : Vec F S8x8192x512 .bf16) (X3 : Vec F S512x256 .bf16) : Vec F S8x8192x512 .f32 := fun j =>
  have h1 : (j 1).val < 8192 := (j 1).isLt
  have h2 : (j 2).val < 512 := (j 2).isLt
  tile (rowsTile X0 (j 0) ⟨(j 1).val / 1024, by omega⟩ ⟨(j 2).val / 128, by omega⟩) (lanesOf X1 (j 0) ⟨(j 2).val / 128, by omega⟩)
    (lanesOf X2 (j 0) ⟨(j 2).val / 128, by omega⟩) X3 ((j 1).val / 1024)
    (ix3 0 ⟨(j 1).val % 1024, Nat.mod_lt _ (by decide)⟩ ⟨(j 2).val % 128, Nat.mod_lt _ (by decide)⟩)

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![(grid0.coords t 0).val, (grid0.coords t 2).val, (grid0.coords t 1).val] :=
  (by decide +kernel : ∀ t : Fin grid0.N, _)

theorem iblk0_eq (c : Dev nD) (t : Fin cfg0.N) :
    iblk m c 0 t = rowsTile (V m c main_v5) (grid0.coords t 0) (grid0.coords t 2) (grid0.coords t 1) := by
  funext y
  show V m c main_v5 ((win0_0.blk t).view.emb y) = _
  unfold rowsTile
  refine congrArg (V m c main_v5) ?_
  funext a
  apply Fin.ext
  blk_simp
  rw [index0]
  fin_cases a
  · have : (y 0).val < 1 := (y 0).isLt
    show (grid0.coords t 0).val * 1 + (y 0).val = (grid0.coords t 0).val
    omega
  · show (grid0.coords t 2).val * 1024 + (y 1).val = 1024 * (grid0.coords t 2).val + (y 1).val
    omega
  · show (grid0.coords t 1).val * 128 + (y 2).val = 128 * (grid0.coords t 1).val + (y 2).val
    omega

theorem iblk1_eq (c : Dev nD) (t : Fin cfg0.N) :
    iblk m c 1 t = lanesOf (V m c main_v6) (grid0.coords t 0) (grid0.coords t 1) := by
  funext y
  show V m c main_v6 ((win0_1.blk t).view.emb y) = _
  unfold lanesOf
  refine congrArg (V m c main_v6) ?_
  funext a
  apply Fin.ext
  blk_simp
  rw [index1]
  fin_cases a
  · have : (y 0).val < 1 := (y 0).isLt
    show (grid0.coords t 0).val * 1 + (y 0).val = (grid0.coords t 0).val
    omega
  · show 0 * 8192 + (y 1).val = (y 1).val
    omega
  · show (grid0.coords t 1).val * 128 + (y 2).val = 128 * (grid0.coords t 1).val + (y 2).val
    omega

theorem iblk2_eq (c : Dev nD) (t : Fin cfg0.N) :
    iblk m c 2 t = lanesOf (V m c main_v7) (grid0.coords t 0) (grid0.coords t 1) := by
  funext y
  show V m c main_v7 ((win0_2.blk t).view.emb y) = _
  unfold lanesOf
  refine congrArg (V m c main_v7) ?_
  funext a
  apply Fin.ext
  blk_simp
  rw [index2]
  fin_cases a
  · have : (y 0).val < 1 := (y 0).isLt
    show (grid0.coords t 0).val * 1 + (y 0).val = (grid0.coords t 0).val
    omega
  · show 0 * 8192 + (y 1).val = (y 1).val
    omega
  · show (grid0.coords t 1).val * 128 + (y 2).val = 128 * (grid0.coords t 1).val + (y 2).val
    omega

theorem iblk3_eq (c : Dev nD) (t : Fin cfg0.N) : iblk m c 3 t = V m c main_v13 := by
  funext y
  show V m c main_v13 ((win0_3.blk t).view.emb y) = _
  refine congrArg (V m c main_v13) ?_
  funext a
  apply Fin.ext
  blk_simp
  rw [index3]
  fin_cases a
  · show 0 * 512 + (y 0).val = (y 0).val
    omega
  · show 0 * 256 + (y 1).val = (y 1).val
    omega

/-- The result array after the run. -/
theorem final (c : Dev nD) : (dats m 0 c).arrAt 4 cfg0.N = result (V m c main_v5) (V m c main_v6) (V m c main_v7) (V m c main_v13) := by
  refine (dats m 0 c).arrAt_eq_of_covers 4 _ (by decide +kernel) fun t hf y => ?_
  blk_simp
  rw [after0_4, iblk0_eq, iblk1_eq, iblk2_eq, iblk3_eq]
  have h0 : ((win0_4.blk t).view.emb y 0).val = (grid0.coords t 0).val := by
    blk_simp
    rw [index4]
    rfl
  have h1 : ((win0_4.blk t).view.emb y 1).val = (grid0.coords t 2).val * 1024 + (y 1).val := by
    blk_simp
    rw [index4]
    rfl
  have h2 : ((win0_4.blk t).view.emb y 2).val = (grid0.coords t 1).val * 128 + (y 2).val := by
    blk_simp
    rw [index4]
    rfl
  have b1 : (y 1).val < 1024 := (y 1).isLt
  have b2 : (y 2).val < 128 := (y 2).isLt
  generalize (win0_4.blk t).view.emb y = j at h0 h1 h2 ⊢
  unfold result
  have j1 : (j 1).val < 8192 := (j 1).isLt
  have j2 : (j 2).val < 512 := (j 2).isLt
  have e0 : j 0 = grid0.coords t 0 := Fin.ext h0
  have e1 : (j 1).val / 1024 = (grid0.coords t 2).val := by omega
  have e2 : (j 2).val / 128 = (grid0.coords t 1).val := by omega
  have e3 : ix3 0 ⟨(j 1).val % 1024, Nat.mod_lt _ (by decide)⟩ ⟨(j 2).val % 128, Nat.mod_lt _ (by decide)⟩ = y := by
    funext a
    apply Fin.ext
    fin_cases a
    · show 0 = (y 0).val
      have : (y 0).val < 1 := (y 0).isLt
      omega
    · show (j 1).val % 1024 = (y 1).val
      omega
    · show (j 2).val % 128 = (y 2).val
      omega
  have f1 : (⟨(j 1).val / 1024, by omega⟩ : Fin 8) = grid0.coords t 2 := Fin.ext e1
  have f2 : (⟨(j 2).val / 128, by omega⟩ : Fin 4) = grid0.coords t 1 := Fin.ext e2
  dsimp only
  rw [e0, f1, f2, e1, e3]

/-- Every run from zeroed counters ends, the result at its function of the arrays the grid reads and the arguments as launched. -/
theorem run : θ_run defs (onTc (τ := τ) (main (F := F))) ⟨m, fun _ => 0, ρ⟩ (fun r => ∀ c : Dev nD,
      r.2.mem ((c.tc : Thread nD τ).loc main_v14) = result (V m c main_v5) (V m c main_v6) (V m c main_v7) (V m c main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 4).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main_quiescent m ρ)

end Cert.Proof.Exact

end
-- ==== Proof.Ops.lean ====
/- The chain's operations at an index, over the reals. -/
module

public import proofs.«01_k».proof.Proof.Tile
public import Idealize.ShloMosaic.PureOps.Ideal
public import Idealize.ShloMosaic.PureOps.IdealRules
public import Idealize.ShloMosaic.Lib.ValueIdx
public import Idealize.ShloMosaic.Lib.IdealHost
public import Idealize.ShloMosaic.Lib.MatmulPlain
public import Idealize.ShloMosaic.Lib.Pipeline.Value
public import Idealize.ShloMosaic.Lib.WordCmp

@[expose] public section

set_option maxRecDepth 65536

noncomputable section

namespace Cert.Proof.Row

open Cert.KernelIdeal Cert.KernelIdeal.Gen Cert.Proof.Ideal
open Idealize.ShloMosaic Idealize.ShloMosaic.TcCoe Idealize.ShloMosaic.ValueIdx

/-- Dropping a leading axis of extent one. -/
theorem drop_apply {α : Type} {a b : ℕ} (x : (⟨3, ![1, a, b]⟩ : Shape).Idx → α) (h : (⟨3, ![1, a, b]⟩ : Shape).ShapeCasts ⟨2, ![a, b]⟩)
    (r : Fin a) (s : Fin b) : shapeCast ⟨2, ![a, b]⟩ x h (ix2 r s) = x (ix3 0 r s) := by
  refine congrArg x (Shape.reshapeEquiv_eq_of_rowMajor _ ?_)
  show (Shape.rowMajorPi ![1, a, b] _).val = (Shape.rowMajorPi ![a, b] _).val
  rw [Shape.rowMajorPi_succ_val]
  simp
  rfl

/-- Adding one. -/
theorem add_apply {α : Type} {a b : ℕ} (x : (⟨2, ![a, b]⟩ : Shape).Idx → α) (h : (⟨2, ![a, b]⟩ : Shape).ShapeCasts ⟨3, ![1, a, b]⟩)
    (r : Fin a) (s : Fin b) : shapeCast ⟨3, ![1, a, b]⟩ x h (ix3 0 r s) = x (ix2 r s) := by
  refine congrArg x (Shape.reshapeEquiv_eq_of_rowMajor _ ?_)
  show (Shape.rowMajorPi ![a, b] _).val = (Shape.rowMajorPi ![1, a, b] _).val
  rw [Shape.rowMajorPi_succ_val (n := 2)]
  simp
  rfl

/-- A reshape to the same shape changes nothing. -/
theorem same_apply {α : Type} {s : Shape} (x : s.Idx → α) (h : s.ShapeCasts s) (i : s.Idx) : shapeCast s x h i = x i :=
  congrArg x (Shape.reshapeEquiv_self _ i)

/-- The larger of two reals, over the extended reals. -/
theorem coe_max (a b : ℝ) : ((max a b : ℝ) : EReal) = max (a : EReal) (b : EReal) := EReal.coe_strictMono.monotone.map_max

/-- A finite sum of reals, over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scores: a row of queries with a row of keys. -/
theorem scores_apply (qh K : Vec Ideal S1x256x128 .bf16) (r s : Fin 256) :
    scoresOf (F := Ideal) qh K (ix3 0 r s) = ∑ d : Fin 128, (qh (ix3 0 r d) : EReal) * (K (ix3 0 s d) : EReal) := by
  unfold scoresOf
  rw [add_apply]
  refine (Ideal.matmul_transposedRhs_apply (M := 256) (K := 128) (N := 256) none _ _ _ r s).trans ?_
  rw [show (constant S256x256 .f32 0x00000000#32 : FVec Ideal S256x256 .f32) (ix2 r s) = (0 : EReal) from Ideal.ofBits_zero_f32, zero_add]
  refine Finset.sum_congr rfl fun d _ => ?_
  rw [drop_apply, drop_apply]

/-- The running sum takes the weights times the values. -/
theorem acc_apply (a : Vec Ideal S1x256x128 .f32) (w : Vec Ideal S1x256x256 .bf16) (V : Vec Ideal S1x256x128 .bf16) (r : Fin 256) (d : Fin 128) :
    accOf (F := Ideal) a w V (ix3 0 r d)
      = (a (ix3 0 r d) : EReal) + ∑ s : Fin 256, (w (ix3 0 r s) : EReal) * (V (ix3 0 s d) : EReal) := by
  unfold accOf
  rw [add_apply]
  refine congrArg₂ (fun x y : EReal => x + y) (drop_apply _ _ _ _) ?_
  refine (Ideal.matmul_plain_apply (M := 256) (K := 256) (N := 128) none _ _ _ r d).trans ?_
  rw [show (constant S256x128 .f32 0x00000000#32 : FVec Ideal S256x128 .f32) (ix2 r d) = (0 : EReal) from Ideal.ofBits_zero_f32, zero_add]
  refine Finset.sum_congr rfl fun s _ => ?_
  rw [drop_apply, drop_apply]

/-- Softplus in base two, on the reals. -/
def sp (x : ℝ) : ℝ := max x 0 + Real.log (1 + (2 : ℝ) ^ (-|x|)) * (Real.log 2)⁻¹

theorem log2e : (Named.named (F := Ideal) (φ := .f32) κ "log2_e" 0x3FB8AA3B#32 : EReal) = (((Real.log 2)⁻¹ : ℝ) : EReal) :=
  IdealRules.named_const.ideal_named_scalar κ _ _ _ rfl

/-- Softplus of a real score is the real softplus. -/
theorem softplus_apply (z : Vec Ideal S1x256x256 .f32) (r s : Fin 256) (x : ℝ) (h : (z (ix3 0 r s) : EReal) = (x : EReal)) :
    softplusOf (F := Ideal) z (ix2 r s) = ((sp x : ℝ) : EReal) := by
  have h' : shapeCast S256x256 z shapeCasts_S1x256x256_S256x256 (ix2 r s) = (x : EReal) := (drop_apply _ _ _ _).trans h
  have e : softplusOf (F := Ideal) z (ix2 r s)
      = max (shapeCast S256x256 z shapeCasts_S1x256x256_S256x256 (ix2 r s) : EReal) (Ideal.ofBits .f32 0x00000000#32)
        + Ideal.log (Ideal.ofBits .f32 0x3F800000#32 + Ideal.exp2 (Ideal.ofBits .f32 0x00000000#32
            - max (shapeCast S256x256 z shapeCasts_S1x256x256_S256x256 (ix2 r s) : EReal) (-(shapeCast S256x256 z shapeCasts_S1x256x256_S256x256 (ix2 r s) : EReal))))
          * (Named.named (F := Ideal) (φ := .f32) κ "log2_e" 0x3FB8AA3B#32 : EReal) := rfl
  rw [e, h', log2e, Ideal.ofBits_zero_f32, Ideal.ofBits_one_f32]
  have ha : max (x : EReal) (-(x : EReal)) = ((|x| : ℝ) : EReal) := by
    rw [← EReal.coe_neg, ← coe_max]; rfl
  rw [ha, zero_sub, ← EReal.coe_neg, Ideal.exp2_coe, ← EReal.coe_one, ← EReal.coe_add, Ideal.log_coe, ← EReal.coe_zero, ← coe_max]
  have hp : 0 < (2 : ℝ) ^ (-|x|) := Real.rpow_pos_of_pos (by norm_num) _
  have hp' : ¬ (1 + Real.rpow 2 (-|x|)) ≤ 0 := by
    have : 0 < Real.rpow 2 (-|x|) := hp
    linarith
  rw [if_neg hp', ← EReal.coe_mul, ← EReal.coe_add]
  rfl

/-- Where the key stands before the query. -/
theorem before_apply (r s : Fin 256) : beforeOf (ix2 r s) = if s < r then 1#1 else 0#1 := by
  have hr := r.isLt
  have hs := s.isLt
  have e : beforeOf (ix2 r s) = IntOp.cmpi .slt (BitVec.ofNat 32 (0 * 256 + s.val)) (BitVec.ofNat 32 (0 * 256 + r.val)) := rfl
  rw [e, Nat.zero_mul, Nat.zero_add, Nat.zero_add]
  by_cases h : s < r
  · rw [if_pos h]
    exact (WordCmp.cmpi_slt_ofNat_eq_one_iff (by omega) (by omega)).mpr h
  · rw [if_neg h]
    exact (WordCmp.cmpi_slt_ofNat_eq_zero_iff (by omega) (by omega)).mpr (by have := Fin.lt_def.not.mp h; omega)

/-- Softplus in a block on the diagonal. -/
theorem softplusDiag_apply (z : Vec Ideal S1x256x256 .f32) (r s : Fin 256) (x : ℝ) (h : (z (ix3 0 r s) : EReal) = (x : EReal)) :
    softplusDiagOf (F := Ideal) z (ix2 r s) = ((if s < r then sp x else 0 : ℝ) : EReal) := by
  have e : softplusDiagOf (F := Ideal) z (ix2 r s)
      = Scalar.select (beforeOf (ix2 r s)) (softplusOf (F := Ideal) z (ix2 r s)) (Ideal.ofBits .f32 0x00000000#32) := rfl
  rw [e, before_apply, softplus_apply z r s x h, Ideal.ofBits_zero_f32]
  split
  · exact select_one _ _
  · exact select_zero _ _

/-- Two to a score less its sum and plus the carry. -/
theorem exp_apply (z : Vec Ideal S1x256x256 .f32) (sums : FVec Ideal S256x256 .f32) (cy : Vec Ideal S1x256x128 .f32) (r s : Fin 256) (x y c : ℝ)
    (hz : (z (ix3 0 r s) : EReal) = (x : EReal)) (hs : (sums (ix2 r s) : EReal) = (y : EReal)) (hc : (cy (ix3 0 r 0) : EReal) = (c : EReal)) :
    expOf (F := Ideal) z sums cy (ix2 r s) = (((2 : ℝ) ^ (x - y + c) : ℝ) : EReal) := by
  have e : expOf (F := Ideal) z sums cy (ix2 r s)
      = Ideal.exp2 ((shapeCast S256x256 z shapeCasts_S1x256x256_S256x256 (ix2 r s) : EReal) - sums (ix2 r s)
          + shapeCast S256x128 cy shapeCasts_S1x256x128_S256x128 (ix2 r 0)) := by
    unfold expOf
    refine congrArg Ideal.exp2 (congrArg (fun t : EReal => shapeCast S256x256 z shapeCasts_S1x256x256_S256x256 (ix2 r s) - sums (ix2 r s) + t) ?_)
    refine congrArg (shapeCast S256x128 cy shapeCasts_S1x256x128_S256x128) ?_
    funext a
    match a with
    | ⟨0, _⟩ => exact Fin.ext (Nat.zero_add _)
    | ⟨1, _⟩ => rfl
  have h1 : (shapeCast S256x256 z shapeCasts_S1x256x256_S256x256 (ix2 r s) : EReal) = x := (drop_apply _ _ _ _).trans hz
  have h2 : (shapeCast S256x128 cy shapeCasts_S1x256x128_S256x128 (ix2 r 0) : EReal) = c := (drop_apply _ _ _ _).trans hc
  rw [e, h1, hs, h2, ← EReal.coe_sub, ← EReal.coe_add, Ideal.exp2_coe]
  rfl

/-- The carry's first lane after a block. -/
theorem carry_apply (cy : Vec Ideal S1x256x128 .f32) (sums : FVec Ideal S256x256 .f32) (r : Fin 256) (c y : ℝ)
    (hc : (cy (ix3 0 r 0) : EReal) = (c : EReal)) (hs : (sums (ix2 r 0) : EReal) = (y : EReal)) :
    carryOf (F := Ideal) cy sums (ix3 0 r 0) = ((c - y : ℝ) : EReal) := by
  unfold carryOf
  rw [add_apply, EReal.coe_sub]
  refine congrArg₂ (fun x y : EReal => x - y) ((drop_apply _ _ _ _).trans hc) ?_
  refine Eq.trans (congrArg sums ?_) hs
  funext a
  match a with
  | ⟨0, _⟩ => exact Fin.ext (Nat.zero_add _)
  | ⟨1, _⟩ => rfl

/-- What is kept of the weights, over the reals, is the weights. -/
theorem keep_apply (w : FVec Ideal S256x256 .f32) (r s : Fin 256) : keepOf (F := Ideal) w (ix3 0 r s) = w (ix2 r s) := by
  unfold keepOf
  rw [add_apply]
  rfl

/-- The sums: of the terms from a key to the block's end. -/
theorem sums_apply (p : FVec Ideal S256x256 .f32) (tri : Vec Ideal S512x256 .bf16) (r s : Fin 256) (f : Fin 256 → ℝ)
    (hp : ∀ k, (p (ix2 r k) : EReal) = (f k : EReal))
    (ht : ∀ (k : Fin 512) (s : Fin 256), (tri (ix2 k s) : EReal) = if s.val ≤ k.val % 256 then 1 else 0) :
    sumsOf (F := Ideal) p tri (ix2 r s) = ((∑ k : Fin 256, if s ≤ k then f k else 0 : ℝ) : EReal) := by
  unfold sumsOf
  refine (Ideal.matmul_plain_apply (M := 256) (K := 512) (N := 256) none _ _ _ r s).trans ?_
  rw [show (constant S256x256 .f32 0x00000000#32 : FVec Ideal S256x256 .f32) (ix2 r s) = (0 : EReal) from Ideal.ofBits_zero_f32, zero_add]
  rw [Fin.sum_univ_add (a := 256) (b := 256), coe_sum]
  have h2 : ∀ k : Fin 256, (concatenate S256x512 1
      [⟨S256x256, truncf (F := Ideal) .bf16 p bitsLt_bf16_f32⟩,
       ⟨S256x256, truncf (F := Ideal) .bf16 (subf p (extf .f32 (truncf .bf16 p bitsLt_bf16_f32) bitsLt_bf16_f32)) bitsLt_bf16_f32⟩]
      concatenates_S256x256_S256x256_S256x512_d1 (ix2 r (Fin.natAdd 256 k)) : EReal) = 0 := by
    intro k
    refine (concatenate_pair_apply_right (t := S256x512) (s₁ := S256x256) (s₂ := S256x256) 1 _ _ _ _ rfl rfl (show S256x256.Idx from ix2 r k) ?_ ?_).trans ?_
    · intro b hb
      match b with
      | ⟨0, _⟩ => rfl
      | ⟨1, _⟩ => exact absurd rfl hb
    · show k.val + 256 = 256 + k.val
      omega
    · show (p (ix2 r k) : EReal) - p (ix2 r k) = 0
      rw [hp, ← EReal.coe_sub, sub_self, EReal.coe_zero]
  have h1 : ∀ k : Fin 256, (concatenate S256x512 1
      [⟨S256x256, truncf (F := Ideal) .bf16 p bitsLt_bf16_f32⟩,
       ⟨S256x256, truncf (F := Ideal) .bf16 (subf p (extf .f32 (truncf .bf16 p bitsLt_bf16_f32) bitsLt_bf16_f32)) bitsLt_bf16_f32⟩]
      concatenates_S256x256_S256x256_S256x512_d1 (ix2 r (Fin.castAdd 256 k)) : EReal) = f k := by
    intro k
    refine (concatenate_pair_apply_left (t := S256x512) (s₁ := S256x256) (s₂ := S256x256) 1 _ _ _ _ rfl (show S256x256.Idx from ix2 r k) ?_).trans (hp k)
    intro b
    match b with
    | ⟨0, _⟩ => rfl
    | ⟨1, _⟩ => rfl
  refine (congrArg₂ (fun x y : EReal => x + y) ?_ (Finset.sum_eq_zero fun k _ => ?_)).trans (add_zero _)
  · refine Finset.sum_congr rfl fun k _ => ?_
    rw [h1, same_apply, ht]
    have : (Fin.castAdd 256 k).val % 256 = k.val := Nat.mod_eq_of_lt k.isLt
    rw [this]
    by_cases h : s ≤ k
    · rw [if_pos h, if_pos (Fin.le_def.mp h), mul_one]
    · rw [if_neg h, if_neg (fun h' => h (Fin.le_def.mpr h')), mul_zero, EReal.coe_zero]
  · rw [h2, zero_mul]

end Cert.Proof.Row

end
-- ==== Proof.Sums.lean ====
/- One row of a chain over the reals: the weights as they are, and the chain's slabs after some blocks. -/
module

public import proofs.«01_k».proof.Proof.Ops

@[expose] public section

set_option maxRecDepth 65536

noncomputable section

namespace Cert.Proof.Row

open Cert.KernelIdeal Cert.KernelIdeal.Gen Cert.Proof.Ideal
open Idealize.ShloMosaic Idealize.ShloMosaic.TcCoe Idealize.ShloMosaic.ValueIdx

/-- What a key takes of the stick, in base two: nothing unless it stands before the query `t`. -/
def part (t : ℕ) (Z : ℕ → ℝ) (i : ℕ) : ℝ := if i < t then sp (Z i) else 0

/-- What the keys from `p` to `T` take. -/
def taken (t : ℕ) (Z : ℕ → ℝ) (p T : ℕ) : ℝ := ∑ i ∈ Finset.Ico p T, part t Z i

/-- A key's weight. -/
def weight (t : ℕ) (Z : ℕ → ℝ) (T p : ℕ) : ℝ := if p < t then (2 : ℝ) ^ (Z p - taken t Z p T) else 0

theorem sum_block {M : Type} [AddCommMonoid M] (f : ℕ → M) (c : ℕ) : ∑ k : Fin 256, f (c + k.val) = ∑ p ∈ Finset.Ico c (c + 256), f p := by
  rw [Finset.sum_Ico_eq_sum_range, Nat.add_sub_cancel_left, Finset.sum_range]

theorem sum_block_from (f : ℕ → ℝ) (c : ℕ) (s : Fin 256) :
    (∑ k : Fin 256, if s ≤ k then f (c + k.val) else 0) = ∑ p ∈ Finset.Ico (c + s.val) (c + 256), f p := by
  have h := sum_block (fun p => if c + s.val ≤ p then f p else 0) c
  rw [← Finset.sum_filter (s := Finset.Ico c (c + 256))] at h
  have e : (Finset.Ico c (c + 256)).filter (fun p => c + s.val ≤ p) = Finset.Ico (c + s.val) (c + 256) := by
    ext p; simp only [Finset.mem_filter, Finset.mem_Ico]; omega
  rw [e] at h
  rw [← h]
  refine Finset.sum_congr rfl fun k _ => ?_
  by_cases hk : s ≤ k
  · rw [if_pos hk, if_pos (Nat.add_le_add_left (Fin.le_def.mp hk) c)]
  · rw [if_neg hk, if_neg (fun h' => hk (Fin.le_def.mpr (Nat.le_of_add_le_add_left h')))]

theorem taken_append (t : ℕ) (Z : ℕ → ℝ) {a b c : ℕ} (h : a ≤ b) (h' : b ≤ c) : taken t Z a b + taken t Z b c = taken t Z a c :=
  Finset.sum_Ico_consecutive _ h h'

/-- The triangle of ones, twice. -/
def IsTriangle (tri : Vec Ideal S512x256 .bf16) : Prop :=
  ∀ (k : Fin 512) (s : Fin 256), (tri (ix2 k s) : EReal) = if s.val ≤ k.val % 256 then 1 else 0

variable (qh : Vec Ideal S1x256x128 .bf16) (tri : Vec Ideal S512x256 .bf16) (K V : ℕ → Vec Ideal S1x256x128 .bf16) (N : ℕ) (r : Fin 256)
  (Z : ℕ → ℝ) (v : Fin 128 → ℕ → EReal)

/-- The state of a row after `j` blocks below the diagonal. -/
structure At (j : ℕ) (c : Chain Ideal) : Prop where
  z : ∀ s : Fin 256, (c.z (ix3 0 r s) : EReal) = ((Z (256 * (N - 1 - j) + s.val) : ℝ) : EReal)
  w : ∀ s : Fin 256, (c.w (ix3 0 r s) : EReal) = ((weight (256 * N + r.val) Z (256 * (N + 1)) (256 * (N - j) + s.val) : ℝ) : EReal)
  a : ∀ d : Fin 128, (c.a (ix3 0 r d) : EReal)
    = ∑ p ∈ Finset.Ico (256 * (N - j + 1)) (256 * (N + 1)), ((weight (256 * N + r.val) Z (256 * (N + 1)) p : ℝ) : EReal) * v d p
  y : (c.y (ix3 0 r 0) : EReal) = ((0 - taken (256 * N + r.val) Z (256 * (N - j)) (256 * (N + 1)) : ℝ) : EReal)

variable {qh tri K V N r Z v}

theorem acc_block {j : ℕ} (hj : j ≤ N) {c : Chain Ideal} (h : At N r Z v j c)
    (hv : ∀ b, b ≤ N → ∀ (s : Fin 256) (d : Fin 128), (V b (ix3 0 s d) : EReal) = v d (256 * b + s.val)) (d : Fin 128) :
    (accOf c.a c.w (V (N - j)) (ix3 0 r d) : EReal)
      = ∑ p ∈ Finset.Ico (256 * (N - j)) (256 * (N + 1)), ((weight (256 * N + r.val) Z (256 * (N + 1)) p : ℝ) : EReal) * v d p := by
  rw [acc_apply, h.a d, ← Finset.sum_Ico_consecutive _ (show 256 * (N - j) ≤ 256 * (N - j + 1) by omega) (show 256 * (N - j + 1) ≤ 256 * (N + 1) by omega),
    add_comm]
  refine congrArg (fun x : EReal => x + _) ?_
  rw [show 256 * (N - j + 1) = 256 * (N - j) + 256 by omega,
    ← sum_block (fun p => ((weight (256 * N + r.val) Z (256 * (N + 1)) p : ℝ) : EReal) * v d p)]
  refine Finset.sum_congr rfl fun s _ => ?_
  rw [h.w s, hv (N - j) (by omega) s d]

/-- The first block, on the diagonal. -/
theorem at_first (ht : IsTriangle tri)
    (hz : ∀ b, b ≤ N → ∀ s : Fin 256, (scoresOf (F := Ideal) qh (K b) (ix3 0 r s) : EReal) = ((Z (256 * b + s.val) : ℝ) : EReal)) :
    At N r Z v 0 (Chain.first qh tri (K (N - 1)) (scoresOf qh (K N))) := by
  have hr := r.isLt
  have hs : ∀ s : Fin 256, (sumsOf (F := Ideal) (softplusDiagOf (scoresOf qh (K N))) tri (ix2 r s) : EReal)
      = ((taken (256 * N + r.val) Z (256 * N + s.val) (256 * (N + 1)) : ℝ) : EReal) := by
    intro s
    rw [sums_apply _ tri r s (fun k => part (256 * N + r.val) Z (256 * N + k.val)) (fun k => ?_) ht,
      sum_block_from (fun p => part (256 * N + r.val) Z p)]
    · rfl
    · rw [softplusDiag_apply _ r k _ (hz N (le_refl _) k)]
      unfold part
      by_cases h : k < r
      · rw [if_pos h, if_pos (Nat.add_lt_add_left (Fin.lt_def.mp h) _)]
      · rw [if_neg h, if_neg (fun h' => h (Fin.lt_def.mpr (Nat.lt_of_add_lt_add_left h')))]
  have h0 : (zeroSlab (F := Ideal) (ix3 0 r 0) : EReal) = ((0 : ℝ) : EReal) := by
    show Ideal.ofBits .f32 0x00000000#32 = _
    rw [Ideal.ofBits_zero_f32, EReal.coe_zero]
  refine ⟨fun s => hz (N - 1) (by omega) s, fun s => ?_, fun d => ?_, ?_⟩
  · show keepOf (F := Ideal) _ (ix3 0 r s) = _
    rw [keep_apply]
    refine Eq.trans (show _ = Scalar.select (beforeOf (ix2 r s)) _ (Ideal.ofBits .f32 0x00000000#32) from rfl) ?_
    rw [before_apply, exp_apply _ _ _ r s _ _ _ (hz N (le_refl _) s) (hs s) h0, Ideal.ofBits_zero_f32, add_zero]
    unfold weight
    rw [Nat.sub_zero]
    by_cases h : s < r
    · rw [if_pos h, if_pos (Nat.add_lt_add_left (Fin.lt_def.mp h) _)]
      exact select_one _ _
    · rw [if_neg h, if_neg (fun h' => h (Fin.lt_def.mpr (Nat.lt_of_add_lt_add_left h')))]
      exact select_zero _ _
  · show (Ideal.ofBits .f32 0x00000000#32 : EReal) = _
    rw [Nat.sub_zero, Finset.Ico_self, Finset.sum_empty, Ideal.ofBits_zero_f32]
  · exact carry_apply _ _ r _ _ h0 (hs 0)

/-- One block further down. -/
theorem at_next (ht : IsTriangle tri)
    (hz : ∀ b, b ≤ N → ∀ s : Fin 256, (scoresOf (F := Ideal) qh (K b) (ix3 0 r s) : EReal) = ((Z (256 * b + s.val) : ℝ) : EReal))
    (hv : ∀ b, b ≤ N → ∀ (s : Fin 256) (d : Fin 128), (V b (ix3 0 s d) : EReal) = v d (256 * b + s.val))
    {j : ℕ} (hj : j + 1 ≤ N) {c : Chain Ideal} (h : At N r Z v j c) :
    At N r Z v (j + 1) (Chain.next qh tri (K (N - 2 - j)) (V (N - j)) c) := by
  have hs : ∀ s : Fin 256, (sumsOf (F := Ideal) (softplusOf c.z) tri (ix2 r s) : EReal)
      = ((taken (256 * N + r.val) Z (256 * (N - (j + 1)) + s.val) (256 * (N - j)) : ℝ) : EReal) := by
    intro s
    rw [sums_apply _ tri r s (fun k => part (256 * N + r.val) Z (256 * (N - (j + 1)) + k.val)) (fun k => ?_) ht,
      sum_block_from (fun p => part (256 * N + r.val) Z p), show 256 * (N - (j + 1)) + 256 = 256 * (N - j) by omega]
    · rfl
    · rw [softplus_apply _ r k _ (h.z k)]
      unfold part
      rw [if_pos (by have := k.isLt; omega), show N - 1 - j = N - (j + 1) by omega]
  refine ⟨fun s => ?_, fun s => ?_, fun d => ?_, ?_⟩
  · rw [show N - 1 - (j + 1) = N - 2 - j by omega]
    exact hz (N - 2 - j) (by omega) s
  · show keepOf (F := Ideal) _ (ix3 0 r s) = _
    rw [keep_apply, exp_apply _ _ _ r s _ _ _ (h.z s) (hs s) h.y]
    unfold weight
    rw [if_pos (by have := s.isLt; omega), ← taken_append _ _ (show 256 * (N - (j + 1)) + s.val ≤ 256 * (N - j) by have := s.isLt; omega)
      (show 256 * (N - j) ≤ 256 * (N + 1) by omega), show N - 1 - j = N - (j + 1) by omega]
    refine congrArg (fun x : ℝ => (((2 : ℝ) ^ x : ℝ) : EReal)) ?_
    linarith
  · rw [show N - (j + 1) + 1 = N - j by omega]
    exact acc_block (by omega) h hv d
  · have h0 : (sumsOf (F := Ideal) (softplusOf c.z) tri (ix2 r 0) : EReal)
        = ((taken (256 * N + r.val) Z (256 * (N - (j + 1))) (256 * (N - j)) : ℝ) : EReal) := hs 0
    refine (carry_apply _ _ r _ _ h.y h0).trans ?_
    rw [← taken_append _ _ (show 256 * (N - (j + 1)) ≤ 256 * (N - j) by omega) (show 256 * (N - j) ≤ 256 * (N + 1) by omega)]
    refine congrArg (fun x : ℝ => (x : EReal)) ?_
    ring

/-- After any number of blocks. -/
theorem at_chain (ht : IsTriangle tri)
    (hz : ∀ b, b ≤ N → ∀ s : Fin 256, (scoresOf (F := Ideal) qh (K b) (ix3 0 r s) : EReal) = ((Z (256 * b + s.val) : ℝ) : EReal))
    (hv : ∀ b, b ≤ N → ∀ (s : Fin 256) (d : Fin 128), (V b (ix3 0 s d) : EReal) = v d (256 * b + s.val)) :
    ∀ j, j ≤ N → At N r Z v j (chainAt qh tri K V N j)
  | 0, _ => at_first ht hz
  | j + 1, h => at_next ht hz hv h (at_chain ht hz hv j (by omega))

/-- The chain's result at a row: the weighted sum of the values up to the diagonal block's end. -/
theorem chain_result (ht : IsTriangle tri)
    (hz : ∀ b, b ≤ N → ∀ s : Fin 256, (scoresOf (F := Ideal) qh (K b) (ix3 0 r s) : EReal) = ((Z (256 * b + s.val) : ℝ) : EReal))
    (hv : ∀ b, b ≤ N → ∀ (s : Fin 256) (d : Fin 128), (V b (ix3 0 s d) : EReal) = v d (256 * b + s.val)) (d : Fin 128) :
    (accOf (chainAt qh tri K V N N).a (chainAt qh tri K V N N).w (V 0) (ix3 0 r d) : EReal)
      = ∑ p ∈ Finset.range (256 * (N + 1)), ((weight (256 * N + r.val) Z (256 * (N + 1)) p : ℝ) : EReal) * v d p := by
  have h := acc_block (le_refl N) (at_chain ht hz hv N (le_refl N)) hv d
  rw [Nat.sub_self] at h
  rw [h, Nat.mul_zero, Finset.range_eq_Ico]

end Cert.Proof.Row

end
-- ==== Proof.Window.lean ====
/- The running sum from the end of a row, as the reference's cumulative sum prints it. -/
module

public import proofs.«01_k».proof.Proof.Gen.ReferenceIdeal.Read
public import Idealize.ShloMosaic.Lib.ValueIdx

@[expose] public section

noncomputable section

namespace Cert.Proof.Window

open Idealize.ShloMosaic Idealize.ShloMosaic.ValueIdx

theorem foldl_add {ι : Type} (l : List ι) (f : ι → EReal) (a : EReal) : l.foldl (fun r n => r + f n) a = a + (l.map f).sum := by
  induction l generalizing a with
  | nil => simp
  | cons x l ih => rw [List.foldl_cons, ih, List.map_cons, List.sum_cons, add_assoc]

theorem numel4 (N : ℕ) : (⟨4, ![1, 1, 1, N]⟩ : Shape).numel = N := by
  simp [Shape.numel, Fin.prod_univ_succ]

/-- The window's positions are those of its last axis. -/
theorem symm4 {N : ℕ} (n : Fin (⟨4, ![1, 1, 1, N]⟩ : Shape).numel) :
    (⟨4, ![1, 1, 1, N]⟩ : Shape).rowMajor.symm n = ix4 (0 : Fin 1) (0 : Fin 1) (0 : Fin 1) (n.cast (numel4 N)) :=
  ((⟨4, ![1, 1, 1, N]⟩ : Shape).rowMajor.symm_apply_eq).2 (Fin.ext (by
    rw [Shape.rowMajor_val_four]
    show n.val = ((0 * 1 + 0) * 1 + 0) * N + n.val
    simp))

/-- A sum over windows of the whole length, padded above: from the position to the end. -/
theorem suffix {A B C N Nm1 : ℕ} (hN : Nm1 + 1 = N) (x : (⟨4, ![A, B, C, N]⟩ : Shape).Idx → EReal) {u : Shape} (init : u.Idx → EReal) (h) (hu : 0 < u.numel)
    (h0 : ∀ i, init i = 0) (a : Fin A) (b : Fin B) (c : Fin C) (j : Fin N) :
    Host.reduceWindow (s := ⟨4, ![A, B, C, N]⟩) (t := ⟨4, ![A, B, C, N]⟩) (· + ·) ![1, 1, 1, N] ![1, 1, 1, 1] ![0, 0, 0, 0] ![0, 0, 0, Nm1] x init h hu
        (ix4 a b c j)
      = ∑ k : Fin N, if j ≤ k then x (ix4 a b c k) else 0 := by
  have hj := j.isLt
  let g : ℕ → EReal := fun p => if h : p < N then x (ix4 a b c ⟨p, h⟩) else 0
  have e : Host.reduceWindow (s := ⟨4, ![A, B, C, N]⟩) (t := ⟨4, ![A, B, C, N]⟩) (· + ·) ![1, 1, 1, N] ![1, 1, 1, 1] ![0, 0, 0, 0] ![0, 0, 0, Nm1] x init h hu
      (ix4 a b c j) = ∑ n : Fin (⟨4, ![1, 1, 1, N]⟩ : Shape).numel, g (j.val + n.val) := by
    unfold Host.reduceWindow
    refine (foldl_add _ _ _).trans ?_
    rw [h0, zero_add, Fin.sum_univ_def]
    refine congrArg List.sum (List.map_congr_left fun n _ => ?_)
    have w0 : ((⟨4, ![1, 1, 1, N]⟩ : Shape).rowMajor.symm n 0).val = 0 := by rw [symm4]; rfl
    have w1 : ((⟨4, ![1, 1, 1, N]⟩ : Shape).rowMajor.symm n 1).val = 0 := by rw [symm4]; rfl
    have w2 : ((⟨4, ![1, 1, 1, N]⟩ : Shape).rowMajor.symm n 2).val = 0 := by rw [symm4]; rfl
    have w3 : ((⟨4, ![1, 1, 1, N]⟩ : Shape).rowMajor.symm n 3).val = n.val := by rw [symm4]; rfl
    have ha := a.isLt
    have hb := b.isLt
    have hc := c.isLt
    by_cases hn : j.val + n.val < N
    · rw [dif_pos]
      · show _ = dite _ _ _
        rw [dif_pos hn]
        refine congrArg x (funext fun i => Fin.ext ?_)
        match i with
        | ⟨0, _⟩ => show a.val * 1 + ((⟨4, ![1, 1, 1, N]⟩ : Shape).rowMajor.symm n 0).val - 0 = a.val; omega
        | ⟨1, _⟩ => show b.val * 1 + ((⟨4, ![1, 1, 1, N]⟩ : Shape).rowMajor.symm n 1).val - 0 = b.val; omega
        | ⟨2, _⟩ => show c.val * 1 + ((⟨4, ![1, 1, 1, N]⟩ : Shape).rowMajor.symm n 2).val - 0 = c.val; omega
        | ⟨3, _⟩ => show j.val * 1 + ((⟨4, ![1, 1, 1, N]⟩ : Shape).rowMajor.symm n 3).val - 0 = j.val + n.val; omega
      · intro i
        match i with
        | ⟨0, _⟩ => show 0 ≤ _ ∧ a.val * 1 + ((⟨4, ![1, 1, 1, N]⟩ : Shape).rowMajor.symm n 0).val - 0 < A; omega
        | ⟨1, _⟩ => show 0 ≤ _ ∧ b.val * 1 + ((⟨4, ![1, 1, 1, N]⟩ : Shape).rowMajor.symm n 1).val - 0 < B; omega
        | ⟨2, _⟩ => show 0 ≤ _ ∧ c.val * 1 + ((⟨4, ![1, 1, 1, N]⟩ : Shape).rowMajor.symm n 2).val - 0 < C; omega
        | ⟨3, _⟩ => show 0 ≤ _ ∧ j.val * 1 + ((⟨4, ![1, 1, 1, N]⟩ : Shape).rowMajor.symm n 3).val - 0 < N; omega
    · rw [dif_neg]
      · show _ = dite _ _ _
        rw [dif_neg hn]
      · intro hin
        have h3 : 0 ≤ _ ∧ j.val * 1 + ((⟨4, ![1, 1, 1, N]⟩ : Shape).rowMajor.symm n 3).val - 0 < N := hin 3
        omega
  rw [e, ← Equiv.sum_comp (finCongr (numel4 N)).symm]
  refine (Finset.sum_range (fun n => g (j.val + n))).symm.trans ?_
  have e' : (∑ k : Fin N, if j ≤ k then x (ix4 a b c k) else 0) = ∑ k ∈ Finset.range N, if j.val ≤ k then g k else 0 := by
    rw [Finset.sum_range]
    refine Finset.sum_congr rfl fun k _ => ?_
    by_cases hk : j ≤ k
    · rw [if_pos hk, if_pos (Fin.le_def.mp hk)]
      show _ = dite _ _ _
      rw [dif_pos k.isLt]
    · rw [if_neg hk, if_neg (fun h' => hk (Fin.le_def.mpr h'))]
  have f : (Finset.range N).filter (fun k => j.val ≤ k) = Finset.Ico j.val N := by
    ext p; simp only [Finset.mem_filter, Finset.mem_range, Finset.mem_Ico]; omega
  rw [e', ← Finset.sum_filter, f]
  have c1 := Finset.sum_Ico_eq_sum_range g j.val (j.val + N)
  rw [Nat.add_sub_cancel_left] at c1
  rw [← c1, ← Finset.sum_Ico_consecutive g hj.le (show N ≤ j.val + N by omega)]
  refine (congrArg (fun t : EReal => _ + t) (Finset.sum_eq_zero fun p hp => ?_)).trans (add_zero _)
  show dite _ _ _ = _
  rw [dif_neg (by have := (Finset.mem_Ico.mp hp).1; omega)]

end Cert.Proof.Window

end
-- ==== Proof.RefValue.lean ====
/- The reference's result at an index, where the queries and the keys are real. -/
module

public import proofs.«01_k».proof.Proof.Sums
public import proofs.«01_k».proof.Proof.Window

@[expose] public section

set_option maxRecDepth 65536

noncomputable section

namespace Cert.Proof.RefValue

open Cert.ReferenceIdeal Cert.ReferenceIdeal.Read Cert.Proof.Row
open Idealize.ShloMosaic Idealize.ShloMosaic.TcCoe Idealize.ShloMosaic.ValueIdx

/-- A head's lane. -/
def lane (h : Fin 8) (e : Fin 64) : Fin 512 := ⟨64 * h.val + e.val, by have := h.isLt; have := e.isLt; omega⟩

/-- An array of reals. -/
abbrev Arr : Type := (⟨3, ![8, 8192, 512]⟩ : Shape).Idx → ℝ

/-- A query with a key, in one head. -/
def dots (q k : Arr) (b : Fin 8) (h : Fin 8) (t p : Fin 8192) : ℝ := ∑ e : Fin 64, q (ix3 b t (lane h e)) * k (ix3 b p (lane h e))

/-- A query's scores in base two. -/
def scores2 (q k : Arr) (b : Fin 8) (h : Fin 8) (t : Fin 8192) (p : ℕ) : ℝ :=
  if hp : p < 8192 then dots q k b h t ⟨p, hp⟩ * (1 / 8) / Real.log 2 else 0

/-- Softplus. -/
def nsp (x : ℝ) : ℝ := max x 0 + Real.log (1 + Real.exp (-|x|))

theorem log2_pos : 0 < Real.log 2 := Real.log_pos (by norm_num)

/-- Softplus is softplus in base two of the argument in base two, times log 2. -/
theorem nsp_eq (x : ℝ) : nsp x = Real.log 2 * sp (x / Real.log 2) := by
  have hl := log2_pos
  have h1 : Real.log 2 * max (x / Real.log 2) 0 = max x 0 := by
    rw [mul_max_of_nonneg _ _ hl.le, mul_zero, mul_div_cancel₀ _ hl.ne']
  have h2 : (2 : ℝ) ^ (-|x / Real.log 2|) = Real.exp (-|x|) := by
    rw [Real.rpow_def_of_pos (by norm_num), abs_div, abs_of_pos hl]
    congr 1
    field_simp
  unfold nsp sp
  rw [mul_add, h1, h2]
  congr 1
  field_simp

theorem nsp_neg (x : ℝ) : nsp (-x) = nsp x - x := by
  unfold nsp
  rw [abs_neg]
  rcases le_total x 0 with h | h
  · rw [max_eq_left (by linarith), max_eq_right h]; ring
  · rw [max_eq_right (by linarith), max_eq_left h]; ring

theorem eighth : Ideal.ofBits .f32 0x3E000000#32 = ((1 / 8 : ℝ) : EReal) := by
  simp [Ideal.ofBits, Ideal.ieee, -EReal.coe_mul]
  norm_num

/-- The softplus that the reference prints, at a real. -/
theorem softplus_host (a : ℝ) :
    Scalar.select (FloatOps.cmpf (F := Ideal) (φ := .f32) .une ((a : EReal) - 0) ((a : EReal) - 0)) ((a : EReal) + 0)
        (max (a : EReal) 0 + Ideal.log1p (Ideal.exp (-(max ((a : EReal) - 0) (-((a : EReal) - 0))))))
      = ((nsp a : ℝ) : EReal) := by
  have hc : FloatOps.cmpf (F := Ideal) (φ := .f32) .une ((a : EReal) - 0) ((a : EReal) - 0) = 0#1 := by
    rw [Ideal.cmpf_def]; simp [Ideal.cmp]
  rw [hc, select_zero]
  have ha : max ((a : EReal) - 0) (-((a : EReal) - 0)) = ((|a| : ℝ) : EReal) := by
    rw [sub_zero, ← EReal.coe_neg, ← coe_max]; rfl
  have hp' : ¬ (1 + Real.exp (-|a|)) ≤ 0 := by
    have := Real.exp_pos (-|a|)
    linarith
  rw [ha, ← EReal.coe_neg, Ideal.exp_coe]
  unfold Ideal.log1p
  rw [← EReal.coe_one, ← EReal.coe_add, Ideal.log_coe, if_neg hp', ← EReal.coe_zero, ← coe_max, ← EReal.coe_add]
  rfl

section
variable {x0 x1 : (⟨S8x8192x512, .f32⟩ : BufTy).Contents (Elt Ideal)} {q k : Arr}
  (hq : ∀ i, (x0 i : EReal) = (q i : EReal)) (hk : ∀ i, (x1 i : EReal) = (k i : EReal))
include hq hk

theorem v4_value (b h : Fin 8) (t p : Fin 8192) :
    (val_main_v4 (F := Ideal) x0 x1 (ix4 b h t p) : EReal) = ((dots q k b h t p * (1 / 8) : ℝ) : EReal) := by
  rw [val_main_v4_apply, val_main_v2_apply, val_main_v3_apply, val_main_cst_apply]
  refine Eq.trans (show _ = (∑ e : Fin 64, (val_main_v0 (F := Ideal) x0 (lidx_main_v2 (ix4 b h t p) e) : EReal)
      * (val_main_v1 (F := Ideal) x1 (ridx_main_v2 (ix4 b h t p) e) : EReal)) * Ideal.ofBits .f32 0x3E000000#32 from rfl) ?_
  rw [eighth, EReal.coe_mul]
  unfold dots
  rw [coe_sum]
  refine congrArg (fun x : EReal => x * _) (Finset.sum_congr rfl fun e _ => ?_)
  have hb := b.isLt
  have hh := h.isLt
  have ht := t.isLt
  have hp := p.isLt
  have he := e.isLt
  have i0 : idx_main_v0 (lidx_main_v2 (ix4 b h t p) e) = ix3 b t (lane h e) := funext fun a => Fin.ext (by
    match a with
    | ⟨0, _⟩ => show (((b.val * 8192 + t.val) * 8 + h.val) * 64 + e.val) / 4194304 = b.val; omega
    | ⟨1, _⟩ => show (((b.val * 8192 + t.val) * 8 + h.val) * 64 + e.val) / 512 % 8192 = t.val; omega
    | ⟨2, _⟩ => show (((b.val * 8192 + t.val) * 8 + h.val) * 64 + e.val) % 512 = 64 * h.val + e.val; omega)
  have i1 : idx_main_v1 (ridx_main_v2 (ix4 b h t p) e) = ix3 b p (lane h e) := funext fun a => Fin.ext (by
    match a with
    | ⟨0, _⟩ => show (((b.val * 8192 + p.val) * 8 + h.val) * 64 + e.val) / 4194304 = b.val; omega
    | ⟨1, _⟩ => show (((b.val * 8192 + p.val) * 8 + h.val) * 64 + e.val) / 512 % 8192 = p.val; omega
    | ⟨2, _⟩ => show (((b.val * 8192 + p.val) * 8 + h.val) * 64 + e.val) % 512 = 64 * h.val + e.val; omega)
  rw [val_main_v0_apply, val_main_v1_apply, i0, i1, hq, hk, EReal.coe_mul]

/-- The logarithm of the sigmoid of a score. -/
theorem v11_value (b h : Fin 8) (t p : Fin 8192) :
    (val_main_v11 (F := Ideal) x0 x1 (ix4 b h t p) : EReal) = ((-nsp (-(dots q k b h t p * (1 / 8))) : ℝ) : EReal) := by
  have h4 := v4_value hq hk b h t p
  have h0 : (val_main_call0_v0 (F := Ideal) x0 x1 (ix4 b h t p) : EReal) = ((-(dots q k b h t p * (1 / 8)) : ℝ) : EReal) := by
    rw [val_main_call0_v0_apply]
    refine Eq.trans (show _ = -(val_main_v4 (F := Ideal) x0 x1 (ix4 b h t p) : EReal) from rfl) ?_
    rw [h4, EReal.coe_neg]
  rw [EReal.coe_neg, ← softplus_host, ← h0, ← Ideal.ofBits_zero_f32]
  rfl

/-- The logarithm of what a key leaves. -/
theorem v13_value (b h : Fin 8) (t p : Fin 8192) :
    (val_main_v13 (F := Ideal) x0 x1 (ix4 b h t p) : EReal) = ((-nsp (dots q k b h t p * (1 / 8)) : ℝ) : EReal) := by
  have h4 := v4_value hq hk b h t p
  have h0 : (val_main_call1_v0 (F := Ideal) x0 x1 (ix4 b h t p) : EReal) = ((dots q k b h t p * (1 / 8) : ℝ) : EReal) := by
    rw [val_main_call1_v0_apply]
    refine Eq.trans (show _ = -(-(val_main_v4 (F := Ideal) x0 x1 (ix4 b h t p) : EReal)) from rfl) ?_
    rw [h4, neg_neg]
  rw [EReal.coe_neg, ← softplus_host, ← h0, ← Ideal.ofBits_zero_f32]
  rfl

omit hq hk in
theorem causal (t p : Fin 8192) : val_main_v10 (F := Ideal) (show S8192x8192.Idx from ix2 t p) = if p < t then 1#1 else 0#1 := by
  have ht := t.isLt
  have hp := p.isLt
  have e : val_main_v10 (F := Ideal) (show S8192x8192.Idx from ix2 t p) = IntOp.cmpi .slt (BitVec.ofNat 32 p.val) (BitVec.ofNat 32 t.val) := by
    rw [val_main_v10_apply, val_main_v8_apply, val_main_v9_apply, val_main_v6_apply, val_main_v7_apply]
    rfl
  rw [e]
  by_cases h : p < t
  · rw [if_pos h]
    exact (WordCmp.cmpi_slt_ofNat_eq_one_iff (by omega) (by omega)).mpr h
  · rw [if_neg h]
    exact (WordCmp.cmpi_slt_ofNat_eq_zero_iff (by omega) (by omega)).mpr (by have := Fin.lt_def.not.mp h; omega)

omit hq hk in
theorem pair_idx (b h : Fin 8) (t p : Fin 8192) : idx_main_call2_v1 (ix4 b h t p) = ix2 t p := funext fun a => by
  match a with
  | ⟨0, _⟩ => rfl
  | ⟨1, _⟩ => rfl

omit hq hk in
theorem pair_idx' (b h : Fin 8) (t p : Fin 8192) : idx_main_call4_v1 (ix4 b h t p) = ix2 t p := funext fun a => by
  match a with
  | ⟨0, _⟩ => rfl
  | ⟨1, _⟩ => rfl

theorem v14_value (b h : Fin 8) (t p : Fin 8192) :
    (val_main_v14 (F := Ideal) x0 x1 (ix4 b h t p) : EReal) = ((-(Real.log 2 * part t.val (scores2 q k b h t) p.val) : ℝ) : EReal) := by
  rw [val_main_v14_apply, val_main_call2_v1_apply, pair_idx, causal, val_main_call2_v2_apply]
  have hz : (val_main_call2_v0 (F := Ideal) (idx_main_call2_v2 (ix4 b h t p)) : EReal) = 0 := Ideal.ofBits_zero_f32
  unfold part scores2
  by_cases hp : p < t
  · rw [if_pos hp, if_pos (Fin.lt_def.mp hp), select_one, v13_value hq hk, dif_pos p.isLt, ← nsp_eq]
  · rw [if_neg hp, if_neg (fun h' => hp (Fin.lt_def.mpr h')), select_zero, hz, mul_zero, neg_zero, EReal.coe_zero]

omit hq hk in
/-- The reference's window sum at an index: the sum of the row from there on. -/
theorem suffix_sum (x : FVec Ideal S8x8x8192x8192 .f32) (init : FVec Ideal S_ .f32) (h) (hu : 0 < S_.numel)
    (h0 : ∀ i, (init i : EReal) = 0) (a b : Fin 8) (t p : Fin 8192) :
    (Host.reduceWindowAdd (F := Ideal) (s := S8x8x8192x8192) (t := S8x8x8192x8192) ![1, 1, 1, 8192] ![1, 1, 1, 1] ![0, 0, 0, 0] ![0, 0, 0, 8191] x init h hu (ix4 a b t p) : EReal)
      = ∑ k : Fin 8192, if p ≤ k then (x (ix4 a b t k) : EReal) else 0 := by
  unfold Host.reduceWindowAdd
  rw [Ideal.hostReduceWindowAdd_def]
  unfold Ideal.hostReduceWindowAdd
  exact Window.suffix (A := 8) (B := 8) (C := 8192) (N := 8192) (Nm1 := 8191) rfl x
    (fun _ : (⟨0, ![]⟩ : Shape).Idx => init (Shape.Idx.first hu)) _ _ (fun _ => h0 _) a b t p

theorem v15_value (b h : Fin 8) (t p : Fin 8192) :
    (val_main_v15 (F := Ideal) x0 x1 (ix4 b h t p) : EReal) = ((-(Real.log 2 * taken t.val (scores2 q k b h t) p.val 8192) : ℝ) : EReal) := by
  unfold val_main_v15
  refine (suffix_sum _ _ _ _ (fun _ => Ideal.ofBits_zero_f32) b h t p).trans ?_
  · have e : ∀ j : Fin 8192, (if p ≤ j then (val_main_v14 (F := Ideal) x0 x1 (ix4 b h t j) : EReal) else 0)
        = ((if p.val ≤ j.val then -(Real.log 2 * part t.val (scores2 q k b h t) j.val) else 0 : ℝ) : EReal) := by
      intro j
      by_cases hj : p ≤ j
      · rw [if_pos hj, if_pos (Fin.le_def.mp hj), v14_value hq hk]
      · rw [if_neg hj, if_neg (fun h' => hj (Fin.le_def.mpr h')), EReal.coe_zero]
    rw [Finset.sum_congr rfl (fun j _ => e j), ← coe_sum]
    refine congrArg (fun x : ℝ => (x : EReal)) ?_
    refine (Finset.sum_range (fun j => if p.val ≤ j then -(Real.log 2 * part t.val (scores2 q k b h t) j) else 0)).symm.trans ?_
    rw [← Finset.sum_filter]
    have f : (Finset.range 8192).filter (fun j => p.val ≤ j) = Finset.Ico p.val 8192 := by
      ext j; simp only [Finset.mem_filter, Finset.mem_range, Finset.mem_Ico]; omega
    rw [f, Finset.sum_neg_distrib, ← Finset.mul_sum]
    rfl

/-- The reference's weights. -/
theorem v19_value (b h : Fin 8) (t p : Fin 8192) :
    (val_main_v19 (F := Ideal) x0 x1 (ix4 b h t p) : EReal) = ((weight t.val (scores2 q k b h t) 8192 p.val : ℝ) : EReal) := by
  rw [val_main_v19_apply, val_main_call4_v1_apply, pair_idx', causal, val_main_call4_v2_apply]
  have hz : (val_main_call4_v0 (F := Ideal) (idx_main_call4_v2 (ix4 b h t p)) : EReal) = 0 := Ideal.ofBits_zero_f32
  unfold weight
  by_cases hp : p < t
  · rw [if_pos hp, if_pos (Fin.lt_def.mp hp), select_one, val_main_v18_apply, val_main_v17_apply, val_main_v16_apply]
    refine Eq.trans (show _ = Ideal.exp ((val_main_v11 (F := Ideal) x0 x1 (ix4 b h t p) : EReal)
      + ((val_main_v15 (F := Ideal) x0 x1 (ix4 b h t p) : EReal) - (val_main_v14 (F := Ideal) x0 x1 (ix4 b h t p) : EReal))) from rfl) ?_
    rw [v11_value hq hk, v15_value hq hk, v14_value hq hk, ← EReal.coe_sub, ← EReal.coe_add, Ideal.exp_coe]
    refine congrArg (fun x : ℝ => (x : EReal)) ?_
    have hl := log2_pos
    have e1 : Real.log 2 * part t.val (scores2 q k b h t) p.val = nsp (dots q k b h t p * (1 / 8)) := by
      unfold part scores2
      rw [if_pos (Fin.lt_def.mp hp), dif_pos p.isLt, nsp_eq]
    have e2 : Real.log 2 * scores2 q k b h t p.val = dots q k b h t p * (1 / 8) := by
      unfold scores2
      rw [dif_pos p.isLt, mul_div_cancel₀ _ hl.ne']
    rw [Real.rpow_def_of_pos (by norm_num), mul_sub, e2, e1, nsp_neg]
    congr 1
    ring
  · rw [if_neg hp, if_neg (fun h' => hp (Fin.lt_def.mpr h')), select_zero, hz, EReal.coe_zero]

end

/-- The reference's result at an index: the weighted sum of the values. -/
theorem value {x0 x1 : (⟨S8x8192x512, .f32⟩ : BufTy).Contents (Elt Ideal)} {q k : Arr}
    (hq : ∀ i, (x0 i : EReal) = (q i : EReal)) (hk : ∀ i, (x1 i : EReal) = (k i : EReal))
    (x2 : (⟨S8x8192x512, .f32⟩ : BufTy).Contents (Elt Ideal)) (b h : Fin 8) (t : Fin 8192) (e : Fin 64) :
    (val_main_v23 (F := Ideal) x0 x1 x2 (ix3 b t (lane h e)) : EReal)
      = ∑ p : Fin 8192, ((weight t.val (scores2 q k b h t) 8192 p.val : ℝ) : EReal) * (x2 (ix3 b p (lane h e)) : EReal) := by
  have hb := b.isLt
  have hh := h.isLt
  have ht := t.isLt
  have he := e.isLt
  have i : idx_main_v22 (idx_main_v23 (ix3 b t (lane h e))) = ix4 b h e t := funext fun a => Fin.ext (by
    match a with
    | ⟨0, _⟩ => show ((b.val * 8192 + t.val) * 512 + (64 * h.val + e.val)) / 4194304 = b.val; omega
    | ⟨1, _⟩ => show ((b.val * 8192 + t.val) * 512 + (64 * h.val + e.val)) / 64 % 8 = h.val; omega
    | ⟨2, _⟩ => show ((b.val * 8192 + t.val) * 512 + (64 * h.val + e.val)) % 64 = e.val; omega
    | ⟨3, _⟩ => show ((b.val * 8192 + t.val) * 512 + (64 * h.val + e.val)) / 512 % 8192 = t.val; omega)
  rw [val_main_v23_apply, val_main_v22_apply, i, val_main_v21_apply]
  refine Finset.sum_congr rfl fun p _ => ?_
  have hp := p.isLt
  have i0 : idx_main_v20 (lidx_main_v21 (ix4 b h e t) p) = ix3 b p (lane h e) := funext fun a => Fin.ext (by
    match a with
    | ⟨0, _⟩ => show (((b.val * 8192 + p.val) * 8 + h.val) * 64 + e.val) / 4194304 = b.val; omega
    | ⟨1, _⟩ => show (((b.val * 8192 + p.val) * 8 + h.val) * 64 + e.val) / 512 % 8192 = p.val; omega
    | ⟨2, _⟩ => show (((b.val * 8192 + p.val) * 8 + h.val) * 64 + e.val) % 512 = 64 * h.val + e.val; omega)
  have i1 : ridx_main_v21 (ix4 b h e t) p = ix4 b h t p := funext fun a => by
    match a with
    | ⟨0, _⟩ => rfl
    | ⟨1, _⟩ => rfl
    | ⟨2, _⟩ => rfl
    | ⟨3, _⟩ => rfl
  rw [val_main_v20_apply, i0, i1, v19_value hq hk]
  exact mul_comm _ _

end Cert.Proof.RefValue

end
-- ==== Proof.Host.lean ====
/- What the grid reads, of the kernel's arguments. -/
module

public import proofs.«01_k».proof.Proof.Exact
public import proofs.«01_k».proof.Proof.Sums
public import proofs.«01_k».proof.Proof.RefValue

@[expose] public section

set_option maxRecDepth 65536

noncomputable section

namespace Cert.Proof.Host

open Cert.KernelIdeal Cert.KernelIdeal.Gen Cert.Proof.Row
open Idealize.ShloMosaic Idealize.ShloMosaic.TcCoe Idealize.ShloMosaic.ValueIdx Idealize.ShloMosaic.Tactic StableHlo

section
variable {F : FTy → Type} [FloatOps F] [Named F]
variable (m : (ℓ : Loc nD τ sig) → Buf (Elt F) ℓ) (c : Dev nD)

theorem keys : V m c main_v6 = truncf .bf16 (m ((c.tc : Thread nD τ).loc main_arg1)) bitsLt_bf16_f32 := by
  unfold_abbrev_sides
  after_results

theorem values : V m c main_v7 = truncf .bf16 (m ((c.tc : Thread nD τ).loc main_arg2)) bitsLt_bf16_f32 := by
  unfold_abbrev_sides
  after_results

theorem queries : V m c main_v5 = truncf .bf16 (mulf (m ((c.tc : Thread nD τ).loc main_arg0))
      (broadcastInDim S8x8192x512 ![] bcast_S_S8x8192x512 (Host.divf (constant S_ .f32 0x3E000000#32) (Host.log (constant S_ .f32 0x40000000#32))))) bitsLt_bf16_f32 := by
  unfold_abbrev_sides
  after_results
  rfl

theorem triangle : V m c main_v13 = truncf .bf16 (uitofp .f32 (concatenate S512x256 0
      [⟨S256x256, cmpi .sge (iotaInDim S256x256 32 0) (iotaInDim S256x256 32 1)⟩, ⟨S256x256, cmpi .sge (iotaInDim S256x256 32 0) (iotaInDim S256x256 32 1)⟩]
      concatenates_S256x256_S256x256_S512x256_d0)) bitsLt_bf16_f32 := by
  unfold_abbrev_sides
  after_results

end

variable (m : (ℓ : Loc nD τ sig) → Buf (Elt Ideal) ℓ) (c : Dev nD)

theorem two : Ideal.ofBits .f32 0x40000000#32 = ((2 : ℝ) : EReal) := by
  simp [Ideal.ofBits, Ideal.ieee, -EReal.coe_mul]
  norm_num

/-- The queries are scaled by an eighth over log 2. -/
theorem queries_apply (i : S8x8192x512.Idx) :
    (V (F := Ideal) m c main_v5 i : EReal) = (show EReal from m ((c.tc : Thread nD τ).loc main_arg0) i) * ((1 / 8 / Real.log 2 : ℝ) : EReal) := by
  rw [queries]
  refine Eq.trans (show _ = (show EReal from m ((c.tc : Thread nD τ).loc main_arg0) i)
    * Ideal.div (Ideal.ofBits .f32 0x3E000000#32) (Ideal.log (Ideal.ofBits .f32 0x40000000#32)) from rfl) ?_
  rw [RefValue.eighth, two, Ideal.log_coe, if_neg (by norm_num), Ideal.div_coe RefValue.log2_pos.ne', ← EReal.coe_mul]
  congr 3
  ring

theorem keys_apply (i : S8x8192x512.Idx) : (V (F := Ideal) m c main_v6 i : EReal) = (show EReal from m ((c.tc : Thread nD τ).loc main_arg1) i) := by
  rw [keys]
  rfl

theorem values_apply (i : S8x8192x512.Idx) : (V (F := Ideal) m c main_v7 i : EReal) = (show EReal from m ((c.tc : Thread nD τ).loc main_arg2) i) := by
  rw [values]
  rfl

/-- The triangle's half at an entry. -/
theorem half_apply (k s : Fin 256) :
    cmpi .sge (iotaInDim S256x256 32 0) (iotaInDim S256x256 32 1) (ix2 k s) = if s ≤ k then 1#1 else 0#1 := by
  have hk := k.isLt
  have hs := s.isLt
  refine Eq.trans (show _ = IntOp.cmpi .sge (BitVec.ofNat 32 k.val) (BitVec.ofNat 32 s.val) from rfl) ?_
  by_cases h : s ≤ k
  · rw [if_pos h]
    exact (WordCmp.cmpi_sge_ofNat_eq_one_iff (by omega) (by omega)).mpr h
  · rw [if_neg h]
    exact (WordCmp.cmpi_sge_ofNat_eq_zero_iff (by omega) (by omega)).mpr (by have := Fin.le_def.not.mp h; omega)

/-- The kernel's triangle, one below the other twice, is the triangle the sums take. -/
theorem triangle_is : IsTriangle (V (F := Ideal) m c main_v13) := by
  intro k s
  rw [triangle]
  have key : concatenate S512x256 0
      [⟨S256x256, cmpi .sge (iotaInDim S256x256 32 0) (iotaInDim S256x256 32 1)⟩, ⟨S256x256, cmpi .sge (iotaInDim S256x256 32 0) (iotaInDim S256x256 32 1)⟩]
      concatenates_S256x256_S256x256_S512x256_d0 (ix2 k s) = if s.val ≤ k.val % 256 then 1#1 else 0#1 := by
    have hk := k.isLt
    have step : ∀ k' : Fin 256, k'.val = k.val % 256 → (if s ≤ k' then 1#1 else 0#1) = if s.val ≤ k.val % 256 then 1#1 else 0#1 := by
      intro k' hk'
      by_cases h : s ≤ k'
      · rw [if_pos h, if_pos (by have := Fin.le_def.mp h; omega)]
      · rw [if_neg h, if_neg (by have := Fin.le_def.not.mp h; omega)]
    by_cases h : k.val < 256
    · refine (concatenate_pair_apply_left (t := S512x256) (s₁ := S256x256) (s₂ := S256x256) 0 _ _ _ _ rfl (show S256x256.Idx from ix2 ⟨k.val, h⟩ s) ?_).trans ?_
      · intro b
        match b with
        | ⟨0, _⟩ => rfl
        | ⟨1, _⟩ => rfl
      · exact (half_apply ⟨k.val, h⟩ s).trans (step _ (Nat.mod_eq_of_lt h).symm)
    · refine (concatenate_pair_apply_right (t := S512x256) (s₁ := S256x256) (s₂ := S256x256) 0 _ _ _ _ rfl rfl (show S256x256.Idx from ix2 ⟨k.val - 256, by omega⟩ s) ?_ ?_).trans ?_
      · intro b hb
        match b with
        | ⟨0, _⟩ => exact absurd rfl hb
        | ⟨1, _⟩ => rfl
      · show k.val - 256 + 256 = k.val
        omega
      · exact (half_apply ⟨k.val - 256, by omega⟩ s).trans (step _ (by show k.val - 256 = _; omega))
  refine Eq.trans (show _ = (((concatenate S512x256 0
      [⟨S256x256, cmpi .sge (iotaInDim S256x256 32 0) (iotaInDim S256x256 32 1)⟩, ⟨S256x256, cmpi .sge (iotaInDim S256x256 32 0) (iotaInDim S256x256 32 1)⟩]
      concatenates_S256x256_S256x256_S512x256_d0 (ix2 k s)).toNat : ℝ) : EReal) from rfl) ?_
  rw [key]
  by_cases h : s.val ≤ k.val % 256
  · rw [if_pos h, if_pos h]; norm_num
  · rw [if_neg h, if_neg h]; norm_num

end Cert.Proof.Host

end
-- ==== Proof.Bridge.lean ====
/- The kernel's result at an index, where the queries and the keys are real. -/
module

public import proofs.«01_k».proof.Proof.Exact
public import proofs.«01_k».proof.Proof.Sums
public import proofs.«01_k».proof.Proof.RefValue

@[expose] public section

set_option maxRecDepth 65536

noncomputable section

namespace Cert.Proof.Bridge

open Cert.KernelIdeal Cert.KernelIdeal.Gen Cert.Proof.Ideal Cert.Proof.Exact Cert.Proof.Row Cert.Proof.RefValue
open Idealize.ShloMosaic Idealize.ShloMosaic.TcCoe Idealize.ShloMosaic.ValueIdx

/-- The lanes of the first of a pair of heads. -/
theorem head_apply (r : Fin 256) (d : Fin 128) : headOf (ix2 r d) = if d.val < 64 then 1#1 else 0#1 := by
  have hd := d.isLt
  have e : headOf (ix2 r d) = IntOp.cmpi .slt (BitVec.ofNat 32 d.val) (BitVec.ofNat 32 64) := by
    refine congrArg (fun x => IntOp.cmpi .slt (BitVec.ofNat 32 x) (BitVec.ofNat 32 64)) ?_
    show 0 * 128 + d.val = d.val
    omega
  rw [e]
  by_cases h : d.val < 64
  · rw [if_pos h]
    exact (WordCmp.cmpi_slt_ofNat_eq_one_iff (by omega) (by omega)).mpr h
  · rw [if_neg h]
    exact (WordCmp.cmpi_slt_ofNat_eq_zero_iff (by omega) (by omega)).mpr (by omega)

/-- A tile's piece takes each lane from its head's sum. -/
theorem piece_apply (A B : Vec Ideal S1x256x128 .f32) (r : Fin 256) (d : Fin 128) :
    tilePiece (F := Ideal) A B (ix3 0 r d) = if d.val < 64 then A (ix3 0 r d) else B (ix3 0 r d) := by
  unfold tilePiece
  refine (add_apply _ _ r d).trans ?_
  refine Eq.trans (show _ = Scalar.select (headOf (ix2 r d)) (shapeCast S256x128 A shapeCasts_S1x256x128_S256x128 (ix2 r d))
    (shapeCast S256x128 B shapeCasts_S1x256x128_S256x128 (ix2 r d)) from rfl) ?_
  rw [head_apply, drop_apply, drop_apply]
  by_cases h : d.val < 64
  · rw [if_pos h, if_pos h, select_one]
  · rw [if_neg h, if_neg h, select_zero]

/-- A chain's queries are zero off its head. -/
theorem query_apply (n : Fin 8) (q : Vec Ideal S1x256x128 .bf16) (r : Fin 256) (d : Fin 128) :
    (queryOf (F := Ideal) n q (ix3 0 r d) : EReal) = if d.val / 64 = n.val % 2 then (q (ix3 0 r d) : EReal) else 0 := by
  have hd := d.isLt
  unfold queryOf
  refine (add_apply _ _ r d).trans ?_
  have z : (broadcast S256x128 (Scalar.ofBits (F := Ideal) .bf16 0x0000#16) (ix2 r d) : EReal) = 0 := Ideal.ofBits_zero_bf16
  by_cases hn : n.val % 2 = 0
  · rw [if_pos hn]
    refine Eq.trans (show _ = Scalar.select (headOf (ix2 r d)) (shapeCast S256x128 q shapeCasts_S1x256x128_S256x128 (ix2 r d))
      (broadcast S256x128 (Scalar.ofBits (F := Ideal) .bf16 0x0000#16) (ix2 r d)) from rfl) ?_
    rw [head_apply, drop_apply]
    by_cases h : d.val < 64
    · rw [if_pos h, select_one, if_pos (by omega)]
    · rw [if_neg h, select_zero, if_neg (by omega), z]
  · rw [if_neg hn]
    refine Eq.trans (show _ = Scalar.select (headOf (ix2 r d)) (broadcast S256x128 (Scalar.ofBits (F := Ideal) .bf16 0x0000#16) (ix2 r d))
      (shapeCast S256x128 q shapeCasts_S1x256x128_S256x128 (ix2 r d)) from rfl) ?_
    rw [head_apply, drop_apply]
    by_cases h : d.val < 64
    · rw [if_pos h, select_one, if_neg (by omega), z]
    · rw [if_neg h, select_zero, if_pos (by omega)]

/-- A row of a tile's queries. -/
theorem chainQ_apply (q : Vec Ideal S1x1024x128 .bf16) (n : Fin 8) (r : Fin 256) (d : Fin 128) :
    (chainQ (F := Ideal) q n (ix3 0 r d) : EReal)
      = if d.val / 64 = n.val % 2 then
          (q (ix3 0 ⟨256 * (n.val / 2) + r.val, by have := n.isLt; have := r.isLt; omega⟩ d) : EReal) else 0 := by
  refine (query_apply n _ r d).trans ?_
  refine congrArg (fun x : EReal => if d.val / 64 = n.val % 2 then x else 0) ?_
  refine congrArg q (funext fun a => Fin.ext ?_)
  match a with
  | ⟨0, _⟩ => rfl
  | ⟨1, _⟩ => show 256 * (n.val / 2) + 1 * r.val = 256 * (n.val / 2) + r.val; omega
  | ⟨2, _⟩ => show 0 + 1 * d.val = d.val; omega

/-- A row of a block. -/
theorem blk_apply (x : Vec Ideal S1x8192x128 .bf16) (n : ℕ) (hn : n < 32) (s : Fin 256) (d : Fin 128) :
    blk (F := Ideal) x n (ix3 0 s d) = x (ix3 0 ⟨256 * n + s.val, by have := s.isLt; omega⟩ d) := by
  refine congrArg x (funext fun a => Fin.ext ?_)
  match a with
  | ⟨0, _⟩ => rfl
  | ⟨1, _⟩ => show 256 * (n % 32) + 1 * s.val = 256 * n + s.val; omega
  | ⟨2, _⟩ => show 0 + 1 * d.val = d.val; omega

/-- A sum over the lanes of a pair of heads with zeros off one is the sum over that one's. -/
theorem sum_head (u : ℕ) (hu : u < 2) (f : Fin 128 → EReal) :
    (∑ d : Fin 128, if d.val / 64 = u then f d else 0) = ∑ e : Fin 64, f ⟨64 * u + e.val, by have := e.isLt; omega⟩ := by
  refine (Fin.sum_univ_add (a := 64) (b := 64) (fun d : Fin 128 => if d.val / 64 = u then f d else 0)).trans ?_
  have hu' : u = 0 ∨ u = 1 := by omega
  rcases hu' with h | h
  · subst h
    refine (congrArg₂ (fun x y : EReal => x + y) ?_ (Finset.sum_eq_zero fun e _ => ?_)).trans (add_zero _)
    · refine Finset.sum_congr rfl fun e _ => ?_
      have he := e.isLt
      rw [if_pos (by show e.val / 64 = 0; omega)]
      exact congrArg f (Fin.ext (by show e.val = 64 * 0 + e.val; omega))
    · rw [if_neg (by show ¬ (64 + e.val) / 64 = 0; omega)]
  · subst h
    refine (congrArg₂ (fun x y : EReal => x + y) (Finset.sum_eq_zero fun e _ => ?_) ?_).trans (zero_add _)
    · have he := e.isLt
      rw [if_neg (by show ¬ e.val / 64 = 1; omega)]
    · refine Finset.sum_congr rfl fun e _ => ?_
      have he := e.isLt
      rw [if_pos (by show (64 + e.val) / 64 = 1; omega)]
      exact congrArg f (Fin.ext (by show 64 + e.val = 64 * 1 + e.val; omega))

/-- A chain's scores: a query with a key over the lanes of the chain's head. -/
theorem scores_value (q : Vec Ideal S1x1024x128 .bf16) (K : Vec Ideal S1x8192x128 .bf16) (n : Fin 8) (b : ℕ) (hb : b < 32) (r s : Fin 256) :
    (scoresOf (F := Ideal) (chainQ q n) (blk K b) (ix3 0 r s) : EReal)
      = ∑ e : Fin 64, (q (ix3 0 ⟨256 * (n.val / 2) + r.val, by have := n.isLt; have := r.isLt; omega⟩ ⟨64 * (n.val % 2) + e.val, by have := e.isLt; omega⟩) : EReal)
          * (K (ix3 0 ⟨256 * b + s.val, by have := s.isLt; omega⟩ ⟨64 * (n.val % 2) + e.val, by have := e.isLt; omega⟩) : EReal) := by
  rw [scores_apply]
  refine Eq.trans (Finset.sum_congr rfl fun d _ => ?_) (sum_head (n.val % 2) (Nat.mod_lt _ (by decide)) (fun d =>
    (q (ix3 0 ⟨256 * (n.val / 2) + r.val, by have := n.isLt; have := r.isLt; omega⟩ d) : EReal)
      * (K (ix3 0 ⟨256 * b + s.val, by have := s.isLt; omega⟩ d) : EReal)))
  rw [chainQ_apply, blk_apply K b hb]
  by_cases h : d.val / 64 = n.val % 2
  · rw [if_pos h, if_pos h]
  · rw [if_neg h, if_neg h, zero_mul]

/-- What keys take from some key on does not change past the query. -/
theorem taken_eq (t : ℕ) (Z : ℕ → ℝ) (p T : ℕ) (h : t ≤ T) (hp : p ≤ t) : taken t Z p T = taken t Z p t := by
  unfold taken
  rw [← Finset.sum_Ico_consecutive _ hp h]
  have : ∑ i ∈ Finset.Ico t T, part t Z i = 0 := Finset.sum_eq_zero fun i hi => by
    unfold part
    rw [if_neg (by have := (Finset.mem_Ico.mp hi).1; omega)]
  rw [this, add_zero]

theorem weight_eq (t : ℕ) (Z : ℕ → ℝ) (p T : ℕ) (h : t ≤ T) : weight t Z T p = weight t Z t p := by
  unfold weight
  by_cases hp : p < t
  · rw [if_pos hp, if_pos hp, taken_eq t Z p T h hp.le]
  · rw [if_neg hp, if_neg hp]

/-- A weighted sum does not change past the query. -/
theorem weighted_eq (t : ℕ) (Z : ℕ → ℝ) (v : ℕ → EReal) (T : ℕ) (h : t ≤ T) :
    ∑ p ∈ Finset.range T, ((weight t Z T p : ℝ) : EReal) * v p = ∑ p ∈ Finset.range t, ((weight t Z t p : ℝ) : EReal) * v p := by
  refine ((Finset.sum_congr rfl fun p _ => by rw [weight_eq t Z p T h]).trans ?_)
  refine (Finset.sum_subset (Finset.range_subset_range.mpr h) fun p _ hp => ?_).symm
  have : weight t Z t p = 0 := by
    unfold weight
    rw [if_neg (fun h' => hp (Finset.mem_range.mpr h'))]
  rw [this, EReal.coe_zero, zero_mul]

/-- A chain's sum at its end. -/
theorem accEnd_value (q : Vec Ideal S1x1024x128 .bf16) (K V : Vec Ideal S1x8192x128 .bf16) (tri : Vec Ideal S512x256 .bf16) (ht : IsTriangle tri)
    (qi : ℕ) (hqi : qi < 8) (n : Fin 8) (r : Fin 256) (Z : ℕ → ℝ)
    (hz : ∀ p : Fin 8192, (∑ e : Fin 64, (q (ix3 0 ⟨256 * (n.val / 2) + r.val, by have := n.isLt; have := r.isLt; omega⟩ ⟨64 * (n.val % 2) + e.val, by have := e.isLt; omega⟩) : EReal)
          * (K (ix3 0 p ⟨64 * (n.val % 2) + e.val, by have := e.isLt; omega⟩) : EReal)) = ((Z p.val : ℝ) : EReal))
    (t : ℕ) (htt : t = 256 * (4 * qi + n.val / 2) + r.val) (d : Fin 128) :
    (accEnd (F := Ideal) q K V tri qi n (ix3 0 r d) : EReal)
      = ∑ p : Fin 8192, ((weight t Z 8192 p.val : ℝ) : EReal) * (V (ix3 0 p d) : EReal) := by
  have hn := n.isLt
  have hr := r.isLt
  let v : Fin 128 → ℕ → EReal := fun d p => if h : p < 8192 then V (ix3 0 ⟨p, h⟩ d) else 0
  refine (chain_result (N := 4 * qi + n.val / 2) (r := r) (Z := Z) (v := v) ht ?_ ?_ d).trans ?_
  · intro b hb s
    have hs := s.isLt
    rw [scores_value q K n b (by omega)]
    exact hz ⟨256 * b + s.val, by omega⟩
  · intro b hb s d'
    have hs := s.isLt
    rw [blk_apply V b (by omega)]
    show _ = if h : 256 * b + s.val < 8192 then (V (ix3 0 ⟨256 * b + s.val, h⟩ d') : EReal) else 0
    rw [dif_pos (show 256 * b + s.val < 8192 by omega)]
  · rw [← htt, weighted_eq t Z (v d) _ (by omega), ← weighted_eq t Z (v d) 8192 (by omega)]
    refine (Finset.sum_range (fun p => ((weight t Z 8192 p : ℝ) : EReal) * v d p)).trans ?_
    refine Finset.sum_congr rfl fun p _ => congrArg (fun x : EReal => ((weight t Z 8192 p.val : ℝ) : EReal) * x) ?_
    exact dif_pos p.isLt

/-- The kernel's result at an index: the weighted sum of the values. -/
theorem value (X0 X1 X2 : Vec Ideal S8x8192x512 .bf16) (tri : Vec Ideal S512x256 .bf16) (ht : IsTriangle tri) {q k : Arr}
    (hq : ∀ i, (X0 i : EReal) = ((q i * (1 / 8 / Real.log 2) : ℝ) : EReal)) (hk : ∀ i, (X1 i : EReal) = ((k i : ℝ) : EReal))
    (b h : Fin 8) (t : Fin 8192) (e : Fin 64) :
    (result (F := Ideal) X0 X1 X2 tri (ix3 b t (lane h e)) : EReal)
      = ∑ p : Fin 8192, ((weight t.val (scores2 q k b h t) 8192 p.val : ℝ) : EReal) * (X2 (ix3 b p (lane h e)) : EReal) := by
  have hh := h.isLt
  have htl := t.isLt
  have he := e.isLt
  have hl : (lane h e).val = 64 * h.val + e.val := rfl
  have key : ∀ (n : Fin 8), n.val = 2 * (t.val % 1024 / 256) + h.val % 2 →
      (accEnd (F := Ideal) (rowsTile X0 b ⟨t.val / 1024, by omega⟩ ⟨(lane h e).val / 128, by omega⟩)
        (lanesOf X1 b ⟨(lane h e).val / 128, by omega⟩) (lanesOf X2 b ⟨(lane h e).val / 128, by omega⟩) tri (t.val / 1024) n
        (ix3 0 ⟨t.val % 1024 % 256, by omega⟩ ⟨(lane h e).val % 128, by omega⟩) : EReal)
      = ∑ p : Fin 8192, ((weight t.val (scores2 q k b h t) 8192 p.val : ℝ) : EReal) * (X2 (ix3 b p (lane h e)) : EReal) := by
    intro n hn
    refine (accEnd_value _ _ _ tri ht (t.val / 1024) (by omega) n ⟨t.val % 1024 % 256, by omega⟩ (scores2 q k b h t) ?_ t.val
      (by show t.val = 256 * (4 * (t.val / 1024) + n.val / 2) + t.val % 1024 % 256; omega) _).trans ?_
    · intro p
      unfold scores2 dots
      rw [dif_pos p.isLt, Finset.sum_mul, Finset.sum_div, coe_sum]
      refine Finset.sum_congr rfl fun e' _ => ?_
      have he' := e'.isLt
      have i0 : (rowsTile X0 b ⟨t.val / 1024, by omega⟩ ⟨(lane h e).val / 128, by omega⟩
          (ix3 0 ⟨256 * (n.val / 2) + t.val % 1024 % 256, by omega⟩ ⟨64 * (n.val % 2) + e'.val, by omega⟩) : EReal) = X0 (ix3 b t (lane h e')) := by
        refine congrArg X0 (funext fun a => Fin.ext ?_)
        match a with
        | ⟨0, _⟩ => rfl
        | ⟨1, _⟩ => show 1024 * (t.val / 1024) + (256 * (n.val / 2) + t.val % 1024 % 256) = t.val; omega
        | ⟨2, _⟩ => show 128 * ((64 * h.val + e.val) / 128) + (64 * (n.val % 2) + e'.val) = 64 * h.val + e'.val; omega
      have i1 : (lanesOf X1 b ⟨(lane h e).val / 128, by omega⟩
          (ix3 0 p ⟨64 * (n.val % 2) + e'.val, by omega⟩) : EReal) = X1 (ix3 b p (lane h e')) := by
        refine congrArg X1 (funext fun a => Fin.ext ?_)
        match a with
        | ⟨0, _⟩ => rfl
        | ⟨1, _⟩ => rfl
        | ⟨2, _⟩ => show 128 * ((64 * h.val + e.val) / 128) + (64 * (n.val % 2) + e'.val) = 64 * h.val + e'.val; omega
      refine (congrArg₂ (fun x y : EReal => x * y) (i0.trans (hq _)) (i1.trans (hk _))).trans ?_
      rw [← EReal.coe_mul]
      congr 1
      ring
    · refine Finset.sum_congr rfl fun p _ => congrArg (fun x : EReal => ((weight t.val (scores2 q k b h t) 8192 p.val : ℝ) : EReal) * x) ?_
      refine congrArg X2 (funext fun a => Fin.ext ?_)
      match a with
      | ⟨0, _⟩ => rfl
      | ⟨1, _⟩ => rfl
      | ⟨2, _⟩ => show 128 * ((64 * h.val + e.val) / 128) + (64 * h.val + e.val) % 128 = 64 * h.val + e.val; omega
  refine (piece_apply _ _ ⟨t.val % 1024 % 256, by omega⟩ ⟨(lane h e).val % 128, by omega⟩).trans ?_
  by_cases hd : (lane h e).val % 128 < 64
  · rw [if_pos hd]
    exact key ⟨2 * (t.val % 1024 / 256), by omega⟩ (by show 2 * (t.val % 1024 / 256) = _; omega)
  · rw [if_neg hd]
    exact key ⟨2 * (t.val % 1024 / 256) + 1, by omega⟩ (by show 2 * (t.val % 1024 / 256) + 1 = _; omega)

end Cert.Proof.Bridge

end
-- ==== Proof.Value.lean ====
/- The claim that the kernel and the reference leave the same result over the reals. -/
module

public import proofs.«01_k».proof.Defs
public import proofs.«01_k».proof.Proof.Host
public import proofs.«01_k».proof.Proof.Bridge
public import proofs.«01_k».proof.Proof.RefValue
public import proofs.«01_k».proof.Proof.Exact

@[expose] public section

set_option maxRecDepth 65536

noncomputable section

namespace Cert.Proof

open Idealize.ShloMosaic Idealize.ShloMosaic.TcCoe Idealize.ShloMosaic.ValueIdx Idealize.SL.Sem

/-- The shapes the precondition broadcasts between. -/
theorem facts_finite : Cert.Pre_finite.Facts := ⟨by decide⟩

theorem infinity : Ideal.ofBits .f32 0x7F800000#32 = (⊤ : EReal) := by simp [Ideal.ofBits, Ideal.ieee]

/-- What is less than infinity in absolute value is real. -/
theorem real_of_lt (x : EReal) (h : Ideal.cmp .olt (max x (-x)) ⊤ = 1#1) : x = ((x.toReal : ℝ) : EReal) := by
  have h' : max x (-x) < ⊤ := (WordCmp.ofBool_decide_eq_one_iff _).mp h
  have h1 := lt_of_le_of_lt (le_max_left _ _) h'
  have h2 := lt_of_le_of_lt (le_max_right _ _) h'
  refine (EReal.coe_toReal h1.ne ?_).symm
  intro hb
  rw [hb, EReal.neg_bot] at h2
  exact absurd h2 (lt_irrefl _)

/-- Where the precondition holds, the queries and the keys are real. -/
theorem real_of_finite [Cert.Pre_finite.Facts] (x0 x1 x2 : FVec Ideal Cert.Pre_finite.S8x8192x512 .f32)
    (h : Cert.Pre_finite.fn (F := Ideal) x0 x1 x2 = fun _ => 1#1) (i : Cert.Pre_finite.S8x8192x512.Idx) :
    (x0 i : EReal) = (((x0 i : EReal).toReal : ℝ) : EReal) ∧ (x1 i : EReal) = (((x1 i : EReal).toReal : ℝ) : EReal) := by
  have e : IntOp.andi (Ideal.cmp .olt (max (x0 i : EReal) (-(x0 i : EReal))) (Ideal.ofBits .f32 0x7F800000#32))
      (Ideal.cmp .olt (max (x1 i : EReal) (-(x1 i : EReal))) (Ideal.ofBits .f32 0x7F800000#32)) = 1#1 := congrFun h i
  rw [infinity] at e
  have both : ∀ a b : BitVec 1, IntOp.andi a b = 1#1 → a = 1#1 ∧ b = 1#1 := by decide
  exact ⟨real_of_lt _ (both _ _ e).1, real_of_lt _ (both _ _ e).2⟩

/-- The two results at an index are the same weighted sum. -/
theorem results_eq [Cert.Pre_finite.Facts] (m : (ℓ : Loc Cert.KernelIdeal.nD Cert.KernelIdeal.τ Cert.KernelIdeal.sig) → Buf (Elt Ideal) ℓ) (c : Dev Cert.KernelIdeal.nD)
    (x0 x1 x2 : FVec Ideal Cert.Pre_finite.S8x8192x512 .f32)
    (h0 : m ((c.tc : Thread Cert.KernelIdeal.nD Cert.KernelIdeal.τ).loc Cert.KernelIdeal.main_arg0) = x0)
    (h1 : m ((c.tc : Thread Cert.KernelIdeal.nD Cert.KernelIdeal.τ).loc Cert.KernelIdeal.main_arg1) = x1)
    (h2 : m ((c.tc : Thread Cert.KernelIdeal.nD Cert.KernelIdeal.τ).loc Cert.KernelIdeal.main_arg2) = x2)
    (h : Cert.Pre_finite.fn (F := Ideal) x0 x1 x2 = fun _ => 1#1) :
    Cert.ReferenceIdeal.Read.val_main_v23 (F := Ideal) x0 x1 x2
      = Exact.result (Cert.KernelIdeal.Gen.V m c Cert.KernelIdeal.main_v5) (Cert.KernelIdeal.Gen.V m c Cert.KernelIdeal.main_v6)
          (Cert.KernelIdeal.Gen.V m c Cert.KernelIdeal.main_v7) (Cert.KernelIdeal.Gen.V m c Cert.KernelIdeal.main_v13) := by
  let q : RefValue.Arr := fun i => (x0 i : EReal).toReal
  let k : RefValue.Arr := fun i => (x1 i : EReal).toReal
  have hq : ∀ i, (x0 i : EReal) = ((q i : ℝ) : EReal) := fun i => (real_of_finite x0 x1 x2 h i).1
  have hk : ∀ i, (x1 i : EReal) = ((k i : ℝ) : EReal) := fun i => (real_of_finite x0 x1 x2 h i).2
  have eq5 : ∀ i, (Cert.KernelIdeal.Gen.V m c Cert.KernelIdeal.main_v5 i : EReal) = ((q i * (1 / 8 / Real.log 2) : ℝ) : EReal) := by
    intro i
    rw [Host.queries_apply m c i, h0, EReal.coe_mul]
    exact congrArg (fun x : EReal => x * _) (hq i)
  have eq6 : ∀ i, (Cert.KernelIdeal.Gen.V m c Cert.KernelIdeal.main_v6 i : EReal) = ((k i : ℝ) : EReal) := by
    intro i
    rw [Host.keys_apply m c i, h1]
    exact hk i
  funext j
  have hj1 : (j 1).val < 8192 := (j 1).isLt
  have hj2 : (j 2).val < 512 := (j 2).isLt
  have ej : j = ix3 (j 0) (j 1) (RefValue.lane ⟨(j 2).val / 64, by omega⟩ ⟨(j 2).val % 64, by omega⟩) := by
    funext a
    match a with
    | ⟨0, _⟩ => rfl
    | ⟨1, _⟩ => rfl
    | ⟨2, _⟩ => exact Fin.ext (by show (j 2).val = 64 * ((j 2).val / 64) + (j 2).val % 64; omega)
  rw [ej]
  refine (RefValue.value hq hk x2 (j 0) ⟨(j 2).val / 64, by omega⟩ (j 1) ⟨(j 2).val % 64, by omega⟩).trans ?_
  refine Eq.trans ?_ (Bridge.value _ _ _ _ (Host.triangle_is m c) eq5 eq6 (j 0) ⟨(j 2).val / 64, by omega⟩ (j 1) ⟨(j 2).val % 64, by omega⟩).symm
  refine Finset.sum_congr rfl fun p _ => ?_
  rw [Host.values_apply m c, h2]

/-- The kernel and the reference leave the same result over the reals, where the queries and the keys are finite. -/
theorem algebraic [Cert.Pre_finite.Facts] : Cert.algebraic_KernelIdeal_ReferenceIdeal_pre_finite := by
  intro m ρ m' ρ' hpre hagree
  refine ⟨_, Exact.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v23_eq, (hagree c).1, (hagree c).2.1, (hagree c).2.2]
  exact results_eq m c _ _ _ rfl rfl rfl (hpre c)

end Cert.Proof

end
-- ==== Proof.PremixBlock.lean ====
/- What the premix body leaves in its output blocks over the reals, of its input blocks. -/
module

public import proofs.«01_k».proof.Proof.Gen.PremixIdeal.Value
public import Idealize.ShloMosaic.Lib.Pointwise
public import Idealize.ShloMosaic.Lib.Pipeline.ValueKit

@[expose] public section

set_option maxRecDepth 65536

noncomputable section

namespace Cert.Proof.Premix

open Cert.PremixIdeal Cert.PremixIdeal.Gen
open Idealize.ShloMosaic Idealize.ShloMosaic.TcCoe Idealize.ShloMosaic.Tactic

/-- One entry of a normalised row: the row over the root of its mean square, times the gain, times one plus the scale, plus the
shift. -/
def entry (X sh sc g : Fin 1024 → EReal) (k : Fin 1024) : EReal :=
  X k * Ideal.rsqrt (Ideal.div (∑ j, X j * X j) (Ideal.ofBits .f32 0x44800000#32) + Ideal.ofBits .f32 0x358637BD#32) * g k
    * (Ideal.ofBits .f32 0x3F800000#32 + sc k) + sh k

variable (x0 : Vec Ideal S1x512x1024 .f32) (x1 x2 : Vec Ideal S1x1x1024 .f32) (x3 : Vec Ideal S1x1024 .f32) (x4 : Vec Ideal S1024x3072 .bf16)

/-- One entry of the projection: a normalised row against a column of the weights. -/
def proj (X sh sc g W : Fin 1024 → EReal) : EReal := ∑ k, entry X sh sc g k * W k

/-- The scale of the scores. -/
def scl : EReal := (((8 * Real.log 2)⁻¹ : ℝ) : EReal)

theorem named_scale : (Named.named (F := Ideal) (φ := .f32) κ "score_scale" 0x3E38AA3B#32 : EReal) = scl :=
  IdealRules.named_const.ideal_named_scalar _ _ _ _ rfl

/-- The body's normalised rows. -/
theorem rows_apply (r : Fin 512) (k : Fin 1024) :
    (k0_pay8 x0 x1 x2 x3 x4 (ix2 r k) : EReal)
      = entry (fun j => x0 (ix3 0 r j)) (fun j => x1 (ix3 0 0 j)) (fun j => x2 (ix3 0 0 j)) (fun j => x3 (ix2 0 j)) k := by
  unfold k0_pay8 k0_pay2 entry
  pointwise

section
variable (H : FVec Ideal S512x1024 .bf16) (W : Vec Ideal S1024x512 .bf16) (r n : Fin 512)

theorem pay1_apply : (k0_pay1 H W (ix3 0 r n) : EReal) = ∑ k : Fin 1024, (H (ix2 r k) : EReal) * W (ix2 k n) := by
  unfold k0_pay1
  pointwise

theorem pay4_apply : (k0_pay4 H W (ix3 0 r n) : EReal) = ∑ k : Fin 1024, (H (ix2 r k) : EReal) * W (ix2 k n) := by
  unfold k0_pay4
  pointwise

theorem pay5_apply : (k0_pay5 H W (ix3 0 r n) : EReal) = ∑ k : Fin 1024, (H (ix2 r k) : EReal) * W (ix2 k n) := by
  unfold k0_pay5
  pointwise

theorem pay7_apply : (k0_pay7 H W (ix3 0 r n) : EReal) = ∑ k : Fin 1024, (H (ix2 r k) : EReal) * W (ix2 k n) := by
  unfold k0_pay7
  pointwise

theorem pay6_apply : (k0_pay6 H W (ix3 0 r n) : EReal) = (∑ k : Fin 1024, (H (ix2 r k) : EReal) * W (ix2 k n)) * scl := by
  rw [← named_scale]
  unfold k0_pay6
  pointwise

end

/-- The first store's columns, of the rows. -/
theorem pay3_apply (W : Vec Ideal S1024x512 .bf16) (r n : Fin 512) :
    (k0_pay3 (View.ld x0 r0_0) (View.ld x3 r0_1) (View.ld x2 r0_2) (View.ld x1 r0_2) W (ix3 0 r n) : EReal)
      = (∑ k : Fin 1024, (k0_pay8 x0 x1 x2 x3 x4 (ix2 r k) : EReal) * W (ix2 k n)) * scl := by
  rw [← named_scale]
  unfold k0_pay3
  rw [show k0_pay2 (View.ld x0 r0_0) (View.ld x3 r0_1) (View.ld x2 r0_2) (View.ld x1 r0_2) = k0_pay8 x0 x1 x2 x3 x4 from rfl]
  generalize k0_pay8 x0 x1 x2 x3 x4 = H
  pointwise

/-- A block's row against a column of the weights' block. -/
def blockProj (r : Fin 512) (n : Fin 3072) : EReal :=
  proj (fun j => x0 (ix3 0 r j)) (fun j => x1 (ix3 0 0 j)) (fun j => x2 (ix3 0 0 j)) (fun j => x3 (ix2 0 j)) (fun k => x4 (ix2 k n))

/-- The sum over a slab of 512 columns of the weights is the block's projection at the slab's columns. -/
theorem slab (o : ℕ) (inb) (r n : Fin 512) (n' : Fin 3072) (h : n'.val = o + n.val) :
    (∑ k : Fin 1024, (k0_pay8 x0 x1 x2 x3 x4 (ix2 r k) : EReal)
      * (View.ld x4 (Rect.unit (s := S1024x3072) ![0, o] S1024x512.size inb) : Vec Ideal S1024x512 .bf16) (ix2 k n)) = blockProj x0 x1 x2 x3 x4 r n' := by
  unfold blockProj proj
  refine Finset.sum_congr rfl fun k _ => ?_
  rw [rows_apply]
  refine congrArg (fun z : EReal => entry (fun j => x0 (ix3 0 r j)) (fun j => x1 (ix3 0 0 j)) (fun j => x2 (ix3 0 0 j)) (fun j => x3 (ix2 0 j)) k * z) ?_
  refine View.ld_unit_apply_of x4 _ _ _ _ _ fun a => ?_
  fin_cases a
  · exact (Nat.zero_add _).symm
  · exact h

/-- A store further right does not reach a column; -/
theorem miss (o : ℕ) (inb) (w : (Rect.unit (s := S1x512x1536) ![0, 0, o] S1x512x512.size inb).shape.Idx → Elt Ideal .f32)
    (L : List (View.Piece (Elt Ideal) S1x512x1536 .f32)) (y : S1x512x1536.Idx) (h : (y 2).val < o) :
    View.canon ((⟨Rect.unit ![0, 0, o] S1x512x512.size inb, w⟩ : View.Piece (Elt Ideal) S1x512x1536 .f32) :: L) y = View.canon L y := by
  refine View.canon_cons_of_not_mem _ _ fun hm => ?_
  have h2 : o ≤ (y 2).val := ((Rect.mem_set_unit (inb := inb) (i := y)).mp hm 2).1
  omega

/-- the last store that does gives it. -/
theorem hit (o : ℕ) (inb) (w : (Rect.unit (s := S1x512x1536) ![0, 0, o] S1x512x512.size inb).shape.Idx → Elt Ideal .f32)
    (L : List (View.Piece (Elt Ideal) S1x512x1536 .f32)) (r : Fin 512) (n : Fin 1536) (n' : Fin 512) (h : n.val = o + n'.val) :
    View.canon ((⟨Rect.unit ![0, 0, o] S1x512x512.size inb, w⟩ : View.Piece (Elt Ideal) S1x512x1536 .f32) :: L) (ix3 0 r n) = w (ix3 (n0 := 1) (n1 := 512) (n2 := 512) 0 r n') := by
  refine Eq.trans (congrArg _ ?_) (View.canon_cons_emb _ w L (ix3 (n0 := 1) (n1 := 512) (n2 := 512) 0 r n'))
  funext a
  apply Fin.ext
  refine Eq.trans ?_ (Rect.idx_unit_val _ _ _ _ _).symm
  fin_cases a
  · rfl
  · exact (Nat.zero_add _).symm
  · exact h

/-- The first output block: the queries' columns scaled, the keys' and the values' not. -/
theorem out5_apply (r : Fin 512) (n : Fin 1536) : (out0_5 x0 x1 x2 x3 x4 (ix3 0 r n) : EReal) =
    if n.val < 512 then blockProj x0 x1 x2 x3 x4 r ⟨n.val, by omega⟩ * scl else blockProj x0 x1 x2 x3 x4 r ⟨n.val, by omega⟩ := by
  unfold out0_5
  have hn := n.isLt
  by_cases h1 : n.val < 512
  · rw [if_pos h1]
    refine (miss _ _ _ _ _ (show n.val < 1024 by omega)).trans ((miss _ _ _ _ _ (show n.val < 512 from h1)).trans
      ((hit _ _ _ _ r n ⟨n.val, h1⟩ (Nat.zero_add _).symm).trans ((pay3_apply x0 x1 x2 x3 x4 _ r _).trans ?_)))
    exact congrArg (· * scl) (slab x0 x1 x2 x3 x4 _ _ r _ _ (Nat.zero_add _).symm)
  · rw [if_neg h1]
    by_cases h2 : n.val < 1024
    · refine (miss _ _ _ _ _ (show n.val < 1024 from h2)).trans
        ((hit _ _ _ _ r n ⟨n.val - 512, by omega⟩ (by show n.val = 512 + (n.val - 512); omega)).trans ((pay4_apply _ _ r _).trans ?_))
      exact slab x0 x1 x2 x3 x4 _ _ r _ _ (by show n.val = 512 + (n.val - 512); omega)
    · refine (hit _ _ _ _ r n ⟨n.val - 1024, by omega⟩ (by show n.val = 1024 + (n.val - 1024); omega)).trans ((pay5_apply _ _ r _).trans ?_)
      exact slab x0 x1 x2 x3 x4 _ _ r _ _ (by show n.val = 1024 + (n.val - 1024); omega)

/-- The second output block: the other queries, scaled. -/
theorem out6_apply (r n : Fin 512) :
    (out0_6 x0 x1 x2 x3 x4 (ix3 0 r n) : EReal) = blockProj x0 x1 x2 x3 x4 r ⟨1536 + n.val, by omega⟩ * scl := by
  unfold out0_6
  refine (congrFun (View.canon_cons_unit_lit _ _ _ (by decide)) _).trans ((pay6_apply _ _ r n).trans ?_)
  exact congrArg (· * scl) (slab x0 x1 x2 x3 x4 _ _ r n _ rfl)

/-- The third: the other keys. -/
theorem out7_apply (r n : Fin 512) :
    (out0_7 x0 x1 x2 x3 x4 (ix3 0 r n) : EReal) = blockProj x0 x1 x2 x3 x4 r ⟨2048 + n.val, by omega⟩ := by
  unfold out0_7
  refine (congrFun (View.canon_cons_unit_lit _ _ _ (by decide)) _).trans ((pay7_apply _ _ r n).trans ?_)
  exact slab x0 x1 x2 x3 x4 _ _ r n _ rfl

/-- The fourth: the other values. -/
theorem out8_apply (r n : Fin 512) :
    (out0_8 x0 x1 x2 x3 x4 (ix3 0 r n) : EReal) = blockProj x0 x1 x2 x3 x4 r ⟨2560 + n.val, by omega⟩ := by
  unfold out0_8
  refine (congrFun (View.canon_cons_unit_lit _ _ _ (by decide)) _).trans ((pay1_apply _ _ r n).trans ?_)
  exact slab x0 x1 x2 x3 x4 _ _ r n _ rfl

end Cert.Proof.Premix

end
-- ==== Proof.PremixValue.lean ====
/- The premix's result arrays over the reals, of the kernel's arguments. -/
module

public import proofs.«01_k».proof.Proof.PremixBlock

@[expose] public section

set_option maxRecDepth 65536

noncomputable section

namespace Cert.Proof.Premix

open Cert.PremixIdeal Cert.PremixIdeal.Gen
open Idealize.ShloMosaic Idealize.ShloMosaic.TcCoe Idealize.ShloMosaic.Tactic StableHlo

section
variable (A0 : FVec Ideal S8x8192x1024 .f32) (A1 A2 : FVec Ideal S8x1024 .f32) (A3 : FVec Ideal S1024 .f32) (A4 : FVec Ideal S1024x3072 .f32)

/-- A row of the arrays against a column of the weights. -/
def arrayProj (b : Fin 8) (t : Fin 8192) (n : Fin 3072) : EReal :=
  proj (fun j => A0 (ix3 b t j)) (fun j => A1 (ix2 b j)) (fun j => A2 (ix2 b j)) (fun j => A3 (ix1 j)) (fun k => A4 (ix2 k n))

/-- The four results. -/
def res5 : FVec Ideal S8x8192x1536 .f32 := fun i =>
  have h : (i 2).val < 1536 := (i 2).isLt
  if (i 2).val < 512 then arrayProj A0 A1 A2 A3 A4 (i 0) (i 1) ⟨(i 2).val, by omega⟩ * scl
  else arrayProj A0 A1 A2 A3 A4 (i 0) (i 1) ⟨(i 2).val, by omega⟩
@[inherit_doc res5]
def res6 : FVec Ideal S8x8192x512 .bf16 := fun i =>
  have h : (i 2).val < 512 := (i 2).isLt
  arrayProj A0 A1 A2 A3 A4 (i 0) (i 1) ⟨1536 + (i 2).val, by omega⟩ * scl
@[inherit_doc res5]
def res7 : FVec Ideal S8x8192x512 .bf16 := fun i =>
  have h : (i 2).val < 512 := (i 2).isLt
  arrayProj A0 A1 A2 A3 A4 (i 0) (i 1) ⟨2048 + (i 2).val, by omega⟩
@[inherit_doc res5]
def res8 : FVec Ideal S8x8192x512 .bf16 := fun i =>
  have h : (i 2).val < 512 := (i 2).isLt
  arrayProj A0 A1 A2 A3 A4 (i 0) (i 1) ⟨2560 + (i 2).val, by omega⟩

end

variable (m : (ℓ : Loc nD τ sig) → Buf (Elt Ideal) ℓ) (c : Dev nD)

/-- What the grid reads, of the kernel's arguments. -/
theorem shift_apply (b : Fin 8) (j : Fin 1024) :
    (V m c main_v0 (ix3 b 0 j) : EReal) = (m ((c.tc : Thread nD τ).loc main_arg1) : FVec Ideal S8x1024 .f32) (ix2 b j) := by
  unfold_abbrev_sides
  after_results
  pointwise

@[inherit_doc shift_apply]
theorem scale_apply (b : Fin 8) (j : Fin 1024) :
    (V m c main_v1 (ix3 b 0 j) : EReal) = (m ((c.tc : Thread nD τ).loc main_arg2) : FVec Ideal S8x1024 .f32) (ix2 b j) := by
  unfold_abbrev_sides
  after_results
  pointwise

@[inherit_doc shift_apply]
theorem gain_apply (j : Fin 1024) :
    (V m c main_v3 (ix2 0 j) : EReal) = (m ((c.tc : Thread nD τ).loc main_arg3) : FVec Ideal S1024 .f32) (ix1 j) := by
  unfold_abbrev_sides
  after_results
  pointwise

@[inherit_doc shift_apply]
theorem weights_apply (k : Fin 1024) (n : Fin 3072) :
    (V m c main_v2 (ix2 k n) : EReal) = (m ((c.tc : Thread nD τ).loc main_arg4) : FVec Ideal S1024x3072 .f32) (ix2 k n) := by
  unfold_abbrev_sides
  after_results
  pointwise

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![(grid0.coords t 0).val, 0, 0] :=
  (by decide +kernel : ∀ t : Fin grid0.N, _)
theorem index2 : ∀ t : Fin cfg0.N, win0_2.index t = ![(grid0.coords t 0).val, 0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![(grid0.coords t 0).val, (grid0.coords t 1).val, 0] :=
  (by decide +kernel : ∀ t : Fin grid0.N, _)
theorem index6 : ∀ t : Fin cfg0.N, win0_6.index t = ![(grid0.coords t 0).val, (grid0.coords t 1).val, 0] :=
  (by decide +kernel : ∀ t : Fin grid0.N, _)
theorem index7 : ∀ t : Fin cfg0.N, win0_7.index t = ![(grid0.coords t 0).val, (grid0.coords t 1).val, 0] :=
  (by decide +kernel : ∀ t : Fin grid0.N, _)
theorem index8 : ∀ t : Fin cfg0.N, win0_8.index t = ![(grid0.coords t 0).val, (grid0.coords t 1).val, 0] :=
  (by decide +kernel : ∀ t : Fin grid0.N, _)

/-- A row of a grid point's tile, among all rows. -/
def rowAt (t : Fin cfg0.N) (r : Fin 512) : Fin 8192 :=
  ⟨512 * (grid0.coords t 1).val + r.val, by have : (grid0.coords t 1).val < 16 := (grid0.coords t 1).isLt; omega⟩

theorem iblk0_apply (t : Fin cfg0.N) (r : Fin 512) (j : Fin 1024) :
    (iblk m c 0 t (show S1x512x1024.Idx from ix3 0 r j) : EReal)
      = (m ((c.tc : Thread nD τ).loc main_arg0) : FVec Ideal S8x8192x1024 .f32) (ix3 (grid0.coords t 0) (rowAt t r) j) := by
  show V m c main_arg0 ((win0_0.blk t).view.emb _) = _
  rw [V_main_arg0]
  refine congrArg (m ((c.tc : Thread nD τ).loc main_arg0)) ?_
  funext a
  apply Fin.ext
  blk_simp
  rw [index0]
  fin_cases a
  · show (grid0.coords t 0).val * 1 + 0 = (grid0.coords t 0).val
    omega
  · show (grid0.coords t 1).val * 512 + r.val = 512 * (grid0.coords t 1).val + r.val
    omega
  · show 0 * 1024 + j.val = j.val
    omega

theorem iblk1_apply (t : Fin cfg0.N) (j : Fin 1024) :
    (iblk m c 1 t (show S1x1x1024.Idx from ix3 0 0 j) : EReal)
      = (m ((c.tc : Thread nD τ).loc main_arg1) : FVec Ideal S8x1024 .f32) (ix2 (grid0.coords t 0) j) := by
  refine Eq.trans ?_ (shift_apply m c _ j)
  show V m c main_v0 ((win0_1.blk t).view.emb _) = _
  refine congrArg (V m c main_v0) ?_
  funext a
  apply Fin.ext
  blk_simp
  rw [index1]
  fin_cases a
  · show (grid0.coords t 0).val * 1 + 0 = (grid0.coords t 0).val
    omega
  · rfl
  · show 0 * 1024 + j.val = j.val
    omega

theorem iblk2_apply (t : Fin cfg0.N) (j : Fin 1024) :
    (iblk m c 2 t (show S1x1x1024.Idx from ix3 0 0 j) : EReal)
      = (m ((c.tc : Thread nD τ).loc main_arg2) : FVec Ideal S8x1024 .f32) (ix2 (grid0.coords t 0) j) := by
  refine Eq.trans ?_ (scale_apply m c _ j)
  show V m c main_v1 ((win0_2.blk t).view.emb _) = _
  refine congrArg (V m c main_v1) ?_
  funext a
  apply Fin.ext
  blk_simp
  rw [index2]
  fin_cases a
  · show (grid0.coords t 0).val * 1 + 0 = (grid0.coords t 0).val
    omega
  · rfl
  · show 0 * 1024 + j.val = j.val
    omega

theorem iblk3_apply (t : Fin cfg0.N) (j : Fin 1024) :
    (iblk m c 3 t (show S1x1024.Idx from ix2 0 j) : EReal)
      = (m ((c.tc : Thread nD τ).loc main_arg3) : FVec Ideal S1024 .f32) (ix1 j) := by
  refine Eq.trans ?_ (gain_apply m c j)
  show V m c main_v3 ((win0_3.blk t).view.emb _) = _
  refine congrArg (V m c main_v3) ?_
  funext a
  apply Fin.ext
  blk_simp
  rw [index3]
  fin_cases a
  · rfl
  · show 0 * 1024 + j.val = j.val
    omega

theorem iblk4_apply (t : Fin cfg0.N) (k : Fin 1024) (n : Fin 3072) :
    (iblk m c 4 t (show S1024x3072.Idx from ix2 k n) : EReal)
      = (m ((c.tc : Thread nD τ).loc main_arg4) : FVec Ideal S1024x3072 .f32) (ix2 k n) := by
  refine Eq.trans ?_ (weights_apply m c k n)
  show V m c main_v2 ((win0_4.blk t).view.emb _) = _
  refine congrArg (V m c main_v2) ?_
  funext a
  apply Fin.ext
  blk_simp
  rw [index4]
  fin_cases a
  · show 0 * 1024 + k.val = k.val
    omega
  · show 0 * 3072 + n.val = n.val
    omega

/-- The arguments' projection. -/
def argProj (b : Fin 8) (t : Fin 8192) (n : Fin 3072) : EReal :=
  arrayProj (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b t n

/-- A grid point's blocks give the arguments' projection at the point's rows. -/
theorem block_eq (t : Fin cfg0.N) (r : Fin 512) (n : Fin 3072) :
    blockProj (iblk m c 0 t) (iblk m c 1 t) (iblk m c 2 t) (iblk m c 3 t) (iblk m c 4 t) r n = argProj m c (grid0.coords t 0) (rowAt t r) n := by
  unfold blockProj argProj arrayProj
  have e0 := fun j => iblk0_apply m c t r j
  have e1 := fun j => iblk1_apply m c t j
  have e2 := fun j => iblk2_apply m c t j
  have e3 := fun j => iblk3_apply m c t j
  have e4 := fun k => iblk4_apply m c t k n
  exact congr (congr (congr (congr (congrArg proj (funext e0)) (funext e1)) (funext e2)) (funext e3)) (funext e4)

/-- What a grid point leaves in output block 1 of 4. -/
theorem point5 (t : Fin cfg0.N) (r : Fin 512) (n : Fin 1536) :
    out0_5 (iblk m c 0 t) (iblk m c 1 t) (iblk m c 2 t) (iblk m c 3 t) (iblk m c 4 t) (ix3 0 r n)
      = res5 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (ix3 (grid0.coords t 0) (rowAt t r) n) := by
  refine (out5_apply _ _ _ _ _ r n).trans ?_
  by_cases h : n.val < 512
  · rw [if_pos h]
    refine (congrArg (· * scl) (block_eq m c t r _)).trans ?_
    exact (if_pos h).symm
  · rw [if_neg h]
    refine (block_eq m c t r _).trans ?_
    exact (if_neg h).symm

/-- Result array 1 of 4 after the run. -/
theorem final5 : (dats m 0 c).arrAt 5 cfg0.N = res5 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 5 _ (by decide +kernel) fun t hf y => ?_
  blk_simp
  rw [after0_5]
  have h0 : ((win0_5.blk t).view.emb y 0).val = (grid0.coords t 0).val := by
    blk_simp
    rw [index5]
    rfl
  have h1 : ((win0_5.blk t).view.emb y 1).val = 512 * (grid0.coords t 1).val + (y 1).val := by
    blk_simp
    rw [index5]
    show (grid0.coords t 1).val * 512 + (y 1).val = _
    omega
  have h2 : ((win0_5.blk t).view.emb y 2).val = (y 2).val := by
    blk_simp
    rw [index5]
    show 0 * 1536 + (y 2).val = (y 2).val
    omega
  generalize (win0_5.blk t).view.emb y = j at h0 h1 h2 ⊢
  have ey : y = ix3 0 (y 1) (y 2) := by
    funext a
    apply Fin.ext
    fin_cases a
    · show (y 0).val = 0
      have : (y 0).val < 1 := (y 0).isLt
      omega
    · rfl
    · rfl
  have ej : j = ix3 (grid0.coords t 0) (rowAt t (y 1)) (y 2) := by
    funext a
    apply Fin.ext
    fin_cases a
    · exact h0
    · exact h1
    · exact h2
  rw [ej]
  exact (congrArg (out0_5 _ _ _ _ _) ey).trans (point5 m c t (y 1) (y 2))

/-- What a grid point leaves in output block 2 of 4. -/
theorem point6 (t : Fin cfg0.N) (r : Fin 512) (n : Fin 512) :
    out0_6 (iblk m c 0 t) (iblk m c 1 t) (iblk m c 2 t) (iblk m c 3 t) (iblk m c 4 t) (ix3 0 r n)
      = res6 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (ix3 (grid0.coords t 0) (rowAt t r) n) := by
  refine (out6_apply _ _ _ _ _ r n).trans ?_
  exact congrArg (· * scl) (block_eq m c t r _)

/-- Result array 2 of 4 after the run. -/
theorem final6 : (dats m 0 c).arrAt 6 cfg0.N = res6 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 6 _ (by decide +kernel) fun t hf y => ?_
  blk_simp
  rw [after0_6]
  have h0 : ((win0_6.blk t).view.emb y 0).val = (grid0.coords t 0).val := by
    blk_simp
    rw [index6]
    rfl
  have h1 : ((win0_6.blk t).view.emb y 1).val = 512 * (grid0.coords t 1).val + (y 1).val := by
    blk_simp
    rw [index6]
    show (grid0.coords t 1).val * 512 + (y 1).val = _
    omega
  have h2 : ((win0_6.blk t).view.emb y 2).val = (y 2).val := by
    blk_simp
    rw [index6]
    show 0 * 512 + (y 2).val = (y 2).val
    omega
  generalize (win0_6.blk t).view.emb y = j at h0 h1 h2 ⊢
  have ey : y = ix3 0 (y 1) (y 2) := by
    funext a
    apply Fin.ext
    fin_cases a
    · show (y 0).val = 0
      have : (y 0).val < 1 := (y 0).isLt
      omega
    · rfl
    · rfl
  have ej : j = ix3 (grid0.coords t 0) (rowAt t (y 1)) (y 2) := by
    funext a
    apply Fin.ext
    fin_cases a
    · exact h0
    · exact h1
    · exact h2
  rw [ej]
  exact (congrArg (out0_6 _ _ _ _ _) ey).trans (point6 m c t (y 1) (y 2))

/-- What a grid point leaves in output block 3 of 4. -/
theorem point7 (t : Fin cfg0.N) (r : Fin 512) (n : Fin 512) :
    out0_7 (iblk m c 0 t) (iblk m c 1 t) (iblk m c 2 t) (iblk m c 3 t) (iblk m c 4 t) (ix3 0 r n)
      = res7 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (ix3 (grid0.coords t 0) (rowAt t r) n) := by
  refine (out7_apply _ _ _ _ _ r n).trans ?_
  exact block_eq m c t r _

/-- Result array 3 of 4 after the run. -/
theorem final7 : (dats m 0 c).arrAt 7 cfg0.N = res7 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 7 _ (by decide +kernel) fun t hf y => ?_
  blk_simp
  rw [after0_7]
  have h0 : ((win0_7.blk t).view.emb y 0).val = (grid0.coords t 0).val := by
    blk_simp
    rw [index7]
    rfl
  have h1 : ((win0_7.blk t).view.emb y 1).val = 512 * (grid0.coords t 1).val + (y 1).val := by
    blk_simp
    rw [index7]
    show (grid0.coords t 1).val * 512 + (y 1).val = _
    omega
  have h2 : ((win0_7.blk t).view.emb y 2).val = (y 2).val := by
    blk_simp
    rw [index7]
    show 0 * 512 + (y 2).val = (y 2).val
    omega
  generalize (win0_7.blk t).view.emb y = j at h0 h1 h2 ⊢
  have ey : y = ix3 0 (y 1) (y 2) := by
    funext a
    apply Fin.ext
    fin_cases a
    · show (y 0).val = 0
      have : (y 0).val < 1 := (y 0).isLt
      omega
    · rfl
    · rfl
  have ej : j = ix3 (grid0.coords t 0) (rowAt t (y 1)) (y 2) := by
    funext a
    apply Fin.ext
    fin_cases a
    · exact h0
    · exact h1
    · exact h2
  rw [ej]
  exact (congrArg (out0_7 _ _ _ _ _) ey).trans (point7 m c t (y 1) (y 2))

/-- What a grid point leaves in output block 4 of 4. -/
theorem point8 (t : Fin cfg0.N) (r : Fin 512) (n : Fin 512) :
    out0_8 (iblk m c 0 t) (iblk m c 1 t) (iblk m c 2 t) (iblk m c 3 t) (iblk m c 4 t) (ix3 0 r n)
      = res8 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (ix3 (grid0.coords t 0) (rowAt t r) n) := by
  refine (out8_apply _ _ _ _ _ r n).trans ?_
  exact block_eq m c t r _

/-- Result array 4 of 4 after the run. -/
theorem final8 : (dats m 0 c).arrAt 8 cfg0.N = res8 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (dats m 0 c).arrAt_eq_of_covers 8 _ (by decide +kernel) fun t hf y => ?_
  blk_simp
  rw [after0_8]
  have h0 : ((win0_8.blk t).view.emb y 0).val = (grid0.coords t 0).val := by
    blk_simp
    rw [index8]
    rfl
  have h1 : ((win0_8.blk t).view.emb y 1).val = 512 * (grid0.coords t 1).val + (y 1).val := by
    blk_simp
    rw [index8]
    show (grid0.coords t 1).val * 512 + (y 1).val = _
    omega
  have h2 : ((win0_8.blk t).view.emb y 2).val = (y 2).val := by
    blk_simp
    rw [index8]
    show 0 * 512 + (y 2).val = (y 2).val
    omega
  generalize (win0_8.blk t).view.emb y = j at h0 h1 h2 ⊢
  have ey : y = ix3 0 (y 1) (y 2) := by
    funext a
    apply Fin.ext
    fin_cases a
    · show (y 0).val = 0
      have : (y 0).val < 1 := (y 0).isLt
      omega
    · rfl
    · rfl
  have ej : j = ix3 (grid0.coords t 0) (rowAt t (y 1)) (y 2) := by
    funext a
    apply Fin.ext
    fin_cases a
    · exact h0
    · exact h1
    · exact h2
  rw [ej]
  exact (congrArg (out0_8 _ _ _ _ _) ey).trans (point8 m c t (y 1) (y 2))

end Cert.Proof.Premix

end
-- ==== Proof.PremixRef.lean ====
/- The premix reference's results over the reals, of its arguments. -/
module

public import proofs.«01_k».proof.Proof.PremixValue
public import proofs.«01_k».proof.Proof.Gen.PremixReferenceIdeal.Run
public import proofs.«01_k».proof.Proof.Gen.PremixReferenceIdeal.Read
public import proofs.«01_k».proof.Proof.Host

@[expose] public section

set_option maxRecDepth 65536

noncomputable section

namespace Cert.Proof.Premix.Ref

open Cert.PremixReferenceIdeal Cert.PremixReferenceIdeal.Gen Cert.PremixReferenceIdeal.Read
open Idealize.ShloMosaic Idealize.ShloMosaic.TcCoe

variable (x0 : FVec Ideal S8x8192x1024 .f32) (x1 x2 : FVec Ideal S8x1024 .f32) (x3 : FVec Ideal S1024 .f32) (x4 : FVec Ideal S1024x3072 .f32)

/-- The scale of the scores is an eighth over log 2. -/
theorem scale_eq (i : S_.Idx) : (val_main_v28 (F := Ideal) i : EReal) = scl := by
  refine Eq.trans (show _ = Ideal.div (Ideal.ofBits .f32 0x3E000000#32) (Ideal.log (Ideal.ofBits .f32 0x40000000#32)) from rfl) ?_
  rw [RefValue.eighth, Host.two, Ideal.log_coe, if_neg (by norm_num), Ideal.div_coe RefValue.log2_pos.ne', ← EReal.coe_mul]
  unfold scl
  congr 1
  rw [mul_inv]
  ring

/-- The reference's normalised rows. -/
theorem rows_apply (b : Fin 8) (t : Fin 8192) (k : Fin 1024) : (val_main_v20 (F := Ideal) x0 x1 x2 x3 (ix3 b t k) : EReal)
    = entry (fun j => x0 (ix3 b t j)) (fun j => x1 (ix2 b j)) (fun j => x2 (ix2 b j)) (fun j => x3 (ix1 j)) k := by
  have i3 : ∀ i : S8x8192x1024.Idx, i 0 = b → i 1 = t → ∀ k, i 2 = k → i = ix3 b t k := by
    rintro i rfl rfl k rfl
    exact eq_ix3 i
  have key : (val_main_v1 (F := Ideal) x0 (ix2 b t) : EReal) = ∑ j, x0 (ix3 b t j) * x0 (ix3 b t j) := by
    rw [val_main_v1_apply]
    refine (congrArg₂ (fun x y : EReal => x + y) Ideal.ofBits_zero_f32 (Finset.sum_congr rfl fun j _ => ?_)).trans (zero_add _)
    rw [val_main_v0_apply, i3 (idx_main_v1 (ix2 b t) j) rfl rfl j rfl]
    rfl
  rw [val_main_v20_apply, val_main_v17_apply, val_main_v12_apply, val_main_v9_apply, val_main_v8_apply, val_main_v7_apply,
    val_main_v6_apply, val_main_v4_apply, val_main_v2_apply, val_main_v3_apply, val_main_v5_apply, val_main_v11_apply, val_main_v10_apply,
    val_main_v16_apply, val_main_v15_apply, val_main_v14_apply, val_main_v13_apply, val_main_v19_apply, val_main_v18_apply]
  have e2 : idx_main_v2 (idx_main_v8 (ix3 b t k)) = ix2 b t := by
    funext a
    match a with
    | ⟨0, _⟩ => rfl
    | ⟨1, _⟩ => rfl
  have e10 : idx_main_v10 (idx_main_v11 (ix3 b t k)) = ix1 k := by
    funext a
    match a with
    | ⟨0, _⟩ => rfl
  have e13 : idx_main_v13 (idx_main_v16 (ix3 b t k)) = ix2 b k := by
    funext a
    match a with
    | ⟨0, _⟩ => rfl
    | ⟨1, _⟩ => rfl
  have e18 : idx_main_v18 (idx_main_v19 (ix3 b t k)) = ix2 b k := by
    funext a
    match a with
    | ⟨0, _⟩ => rfl
    | ⟨1, _⟩ => rfl
  rw [e2, e10, e13, e18, key]
  rfl

/-- The reference's projection. -/
theorem proj_apply (i : S8x8192x3072.Idx) :
    (val_main_v21 (F := Ideal) x0 x1 x2 x3 x4 i : EReal) = arrayProj x0 x1 x2 x3 x4 (i 0) (i 1) (i 2) := by
  rw [val_main_v21_apply]
  unfold arrayProj proj
  refine Finset.sum_congr rfl fun k _ => congrArg₂ (fun x y : EReal => x * y) ?_ ?_
  · refine Eq.trans (congrArg _ ?_) (rows_apply x0 x1 x2 x3 (i 0) (i 1) k)
    exact eq_ix3 _
  · refine congrArg x4 ?_
    exact eq_ix2 _

theorem res5_eq : val_main_v32 (F := Ideal) x0 x1 x2 x3 x4 = res5 x0 x1 x2 x3 x4 := by
  funext i
  have hi : (i 2).val < 1536 := (i 2).isLt
  unfold res5 val_main_v32
  by_cases h : (i 2).val < 512
  · refine (concatenate_pair_apply_left (t := S8x8192x1536) (s₁ := S8x8192x512) (s₂ := S8x8192x1024) 2 _ _ _ _ rfl
      (show S8x8192x512.Idx from ix3 (i 0) (i 1) ⟨(i 2).val, h⟩) ?_).trans ?_
    · intro b
      match b with
      | ⟨0, _⟩ => rfl
      | ⟨1, _⟩ => rfl
      | ⟨2, _⟩ => rfl
    · rw [val_main_v31_apply, val_main_v22_apply, proj_apply, val_main_v30_apply, val_main_v29_apply]
      refine Eq.trans (congrArg (fun z : EReal => arrayProj x0 x1 x2 x3 x4 (i 0) (i 1) ⟨(i 2).val, by omega⟩ * z) (scale_eq _)) ?_
      exact (if_pos h).symm
  · refine (concatenate_pair_apply_right (t := S8x8192x1536) (s₁ := S8x8192x512) (s₂ := S8x8192x1024) 2 _ _ _ _ rfl rfl
      ((ix3 (n0 := 8) (n1 := 8192) (n2 := 1024) (i 0) (i 1) ⟨(i 2).val - 512, by omega⟩ : S8x8192x1024.Idx)) ?_ ?_).trans ?_
    · intro b hb
      match b with
      | ⟨0, _⟩ => rfl
      | ⟨1, _⟩ => rfl
      | ⟨2, _⟩ => exact absurd rfl hb
    · show (i 2).val - 512 + 512 = (i 2).val
      omega
    · rw [val_main_v23_apply, proj_apply]
      refine Eq.trans ?_ (if_neg h).symm
      refine congrArg (arrayProj x0 x1 x2 x3 x4 (i 0) (i 1)) (Fin.ext ?_)
      show 512 + ((i 2).val - 512) = (i 2).val
      omega

theorem res6_eq : val_main_v36 (F := Ideal) x0 x1 x2 x3 x4 = res6 x0 x1 x2 x3 x4 := by
  funext i
  refine Eq.trans (show _ = (val_main_v35 (F := Ideal) x0 x1 x2 x3 x4 i : EReal) from rfl) ?_
  rw [val_main_v35_apply, val_main_v24_apply, proj_apply, val_main_v34_apply, val_main_v33_apply]
  exact congrArg (fun z : EReal => _ * z) (scale_eq _)

theorem res7_eq : val_main_v37 (F := Ideal) x0 x1 x2 x3 x4 = res7 x0 x1 x2 x3 x4 := by
  funext i
  refine Eq.trans (show _ = (val_main_v25 (F := Ideal) x0 x1 x2 x3 x4 i : EReal) from rfl) ?_
  rw [val_main_v25_apply, proj_apply]
  rfl

theorem res8_eq : val_main_v38 (F := Ideal) x0 x1 x2 x3 x4 = res8 x0 x1 x2 x3 x4 := by
  funext i
  refine Eq.trans (show _ = (val_main_v26 (F := Ideal) x0 x1 x2 x3 x4 i : EReal) from rfl) ?_
  rw [val_main_v26_apply, proj_apply]
  rfl

end Cert.Proof.Premix.Ref

end
-- ==== Proof.PremixClaims.lean ====
/- The premix's claims: every run of each program ends, the named constant is the one the printed program holds, and the kernel and
   the reference leave the same results over the reals. -/
module

public import proofs.«01_k».proof.Defs
public import proofs.«01_k».proof.Proof.Gen.Premix.Frame
public import proofs.«01_k».proof.Proof.PremixRef
public import Idealize.ShloMosaic.Lib.Quiescent

@[expose] public section

noncomputable section

namespace Cert.Proof.Premix

open Idealize.ShloMosaic Idealize.SL.Sem

/-- Every run of the premix ends with its arguments as they were. -/
theorem frame_p : Cert.quiescent_Premix := fun m ρ _ => Cert.Premix.Gen.frame m ρ

/-- The same of the premix over the reals. -/
theorem frame_pi : Cert.quiescent_PremixIdeal := fun m ρ _ => Cert.PremixIdeal.Gen.frame m ρ

/-- The same of its reference over the reals. -/
theorem frame_ri : Cert.quiescent_PremixReferenceIdeal := fun m ρ _ =>
  (θ_run Cert.PremixReferenceIdeal.defs _ _).mono (fun r h => ⟨fun c => (h c).2.2.2.2, sem_eq_zero_of_no_sems (by decide) r.2⟩)
    (Cert.PremixReferenceIdeal.Value.run (F := Ideal) m ρ)

/-- The premix over the reals holds 1/(8 log 2) where the premix holds its rounding. -/
theorem preserves : Cert.preserves_Premix_PremixIdeal :=
  IdealRules.named_const.statement Cert.PremixIdeal.κ "score_scale" .f32 0x3E38AA3B#32 (((8 * (Real.log 2))⁻¹ : ℝ) : EReal) rfl

/-- The premix and its reference leave the same four results over the reals. -/
theorem algebraic : Cert.algebraic_PremixIdeal_PremixReferenceIdeal := by
  intro m ρ m' ρ' _ hagree
  refine ⟨_, _, _, _, Cert.PremixIdeal.Value.run_blocks (F := Ideal) m ρ, ?_⟩
  refine (θ_run Cert.PremixReferenceIdeal.defs _ _).mono (fun _ h c =>
    ⟨(h c).1.trans ?_, (h c).2.1.trans ?_, (h c).2.2.1.trans ?_, (h c).2.2.2.1.trans ?_, (h c).2.2.2.2⟩)
    (Cert.PremixReferenceIdeal.Value.run (F := Ideal) m' ρ')
  · rw [Cert.PremixReferenceIdeal.Read.val_main_v32_eq, Ref.res5_eq, (hagree c).1, (hagree c).2.1, (hagree c).2.2.1, (hagree c).2.2.2.1, (hagree c).2.2.2.2]
    exact (final5 m c).symm
  · rw [Cert.PremixReferenceIdeal.Read.val_main_v36_eq, Ref.res6_eq, (hagree c).1, (hagree c).2.1, (hagree c).2.2.1, (hagree c).2.2.2.1, (hagree c).2.2.2.2]
    exact (final6 m c).symm
  · rw [Cert.PremixReferenceIdeal.Read.val_main_v37_eq, Ref.res7_eq, (hagree c).1, (hagree c).2.1, (hagree c).2.2.1, (hagree c).2.2.2.1, (hagree c).2.2.2.2]
    exact (final7 m c).symm
  · rw [Cert.PremixReferenceIdeal.Read.val_main_v38_eq, Ref.res8_eq, (hagree c).1, (hagree c).2.1, (hagree c).2.2.1, (hagree c).2.2.2.1, (hagree c).2.2.2.2]
    exact (final8 m c).symm

end Cert.Proof.Premix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import proofs.«01_k».proof.Proof.Frames
public import proofs.«01_k».proof.Proof.Value
public import proofs.«01_k».proof.Proof.PremixClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Premix.Gen.facts, Cert.PremixIdeal.Gen.facts,
    Cert.PremixReferenceIdeal.Gen.facts, facts_finite,
    frame_p, frame_pi, @frame_pi_finite facts_finite, frame_ri, @frame_ri_finite facts_finite, Premix.frame_p, Premix.frame_pi, Premix.frame_ri,
    preserves, @algebraic facts_finite, Premix.preserves, Premix.algebraic⟩

end Cert.Proof

end
